-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S2x256x2048 : Shape := ⟨3, ![2, 256, 2048]⟩
abbrev S16 : Shape := ⟨1, ![16]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S16x256x256, .bf16⟩
  | .local _ .vmem, ⟨4, _⟩ => ⟨S2x256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3 : BitVec 32 := Scalar.muli v2 c256_i32
  let c0_i32_3 : BitVec 32 := 0#32
  ![v3.toNat, 0]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v16 : BitVec 32 := Scalar.addi v2 c1_i32_7
  let c16_i32_8 : BitVec 32 := 16#32
  let v17 : BitVec 32 := Scalar.remsi v16 c16_i32_8
  let c1_i32_10 : BitVec 32 := 1#32
  let v18 : BitVec 32 := Scalar.muli v17 c1_i32_10
  let v19 : BitVec 32 := Scalar.addi c0_i32_11 v18
  v19.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v20 : BitVec 32 := Scalar.addi v2 c2_i32
  let c16_i32_12 : BitVec 32 := 16#32
  let v21 : BitVec 32 := Scalar.remsi v20 c16_i32_12
  let c1_i32_14 : BitVec 32 := 1#32
  let v22 : BitVec 32 := Scalar.muli v21 c1_i32_14
  let v23 : BitVec 32 := Scalar.addi c0_i32_15 v22
  v23.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v24 : BitVec 32 := Scalar.addi v2 c3_i32
  let c16_i32_16 : BitVec 32 := 16#32
  let v25 : BitVec 32 := Scalar.remsi v24 c16_i32_16
  let c1_i32_18 : BitVec 32 := 1#32
  let v26 : BitVec 32 := Scalar.muli v25 c1_i32_18
  let v27 : BitVec 32 := Scalar.addi c0_i32_19 v26
  v27.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 32 := Scalar.addi v2 c4_i32
  let c16_i32_20 : BitVec 32 := 16#32
  let v29 : BitVec 32 := Scalar.remsi v28 c16_i32_20
  let c1_i32_22 : BitVec 32 := 1#32
  let v30 : BitVec 32 := Scalar.muli v29 c1_i32_22
  let v31 : BitVec 32 := Scalar.addi c0_i32_23 v30
  v31.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v32 : BitVec 32 := Scalar.addi v2 c5_i32
  let c16_i32_24 : BitVec 32 := 16#32
  let v33 : BitVec 32 := Scalar.remsi v32 c16_i32_24
  let c1_i32_26 : BitVec 32 := 1#32
  let v34 : BitVec 32 := Scalar.muli v33 c1_i32_26
  let v35 : BitVec 32 := Scalar.addi c0_i32_27 v34
  v35.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v36 : BitVec 32 := Scalar.addi v2 c6_i32
  let c16_i32_28 : BitVec 32 := 16#32
  let v37 : BitVec 32 := Scalar.remsi v36 c16_i32_28
  let c1_i32_30 : BitVec 32 := 1#32
  let v38 : BitVec 32 := Scalar.muli v37 c1_i32_30
  let v39 : BitVec 32 := Scalar.addi c0_i32_31 v38
  v39.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v40 : BitVec 32 := Scalar.addi v2 c7_i32
  let c16_i32_32 : BitVec 32 := 16#32
  let v41 : BitVec 32 := Scalar.remsi v40 c16_i32_32
  let c1_i32_34 : BitVec 32 := 1#32
  let v42 : BitVec 32 := Scalar.muli v41 c1_i32_34
  let v43 : BitVec 32 := Scalar.addi c0_i32_35 v42
  v43.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v44 : BitVec 32 := Scalar.addi v2 c8_i32
  let c16_i32_36 : BitVec 32 := 16#32
  let v45 : BitVec 32 := Scalar.remsi v44 c16_i32_36
  let c1_i32_38 : BitVec 32 := 1#32
  let v46 : BitVec 32 := Scalar.muli v45 c1_i32_38
  let v47 : BitVec 32 := Scalar.addi c0_i32_39 v46
  v47.toNat
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v48 : BitVec 32 := Scalar.addi v2 c9_i32
  let c16_i32_40 : BitVec 32 := 16#32
  let v49 : BitVec 32 := Scalar.remsi v48 c16_i32_40
  let c1_i32_42 : BitVec 32 := 1#32
  let v50 : BitVec 32 := Scalar.muli v49 c1_i32_42
  let v51 : BitVec 32 := Scalar.addi c0_i32_43 v50
  v51.toNat
def k0_dev10 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v52 : BitVec 32 := Scalar.addi v2 c10_i32
  let c16_i32_44 : BitVec 32 := 16#32
  let v53 : BitVec 32 := Scalar.remsi v52 c16_i32_44
  let c1_i32_46 : BitVec 32 := 1#32
  let v54 : BitVec 32 := Scalar.muli v53 c1_i32_46
  let v55 : BitVec 32 := Scalar.addi c0_i32_47 v54
  v55.toNat
def k0_dev11 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v56 : BitVec 32 := Scalar.addi v2 c11_i32
  let c16_i32_48 : BitVec 32 := 16#32
  let v57 : BitVec 32 := Scalar.remsi v56 c16_i32_48
  let c1_i32_50 : BitVec 32 := 1#32
  let v58 : BitVec 32 := Scalar.muli v57 c1_i32_50
  let v59 : BitVec 32 := Scalar.addi c0_i32_51 v58
  v59.toNat
def k0_dev12 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v60 : BitVec 32 := Scalar.addi v2 c12_i32
  let c16_i32_52 : BitVec 32 := 16#32
  let v61 : BitVec 32 := Scalar.remsi v60 c16_i32_52
  let c1_i32_54 : BitVec 32 := 1#32
  let v62 : BitVec 32 := Scalar.muli v61 c1_i32_54
  let v63 : BitVec 32 := Scalar.addi c0_i32_55 v62
  v63.toNat
def k0_dev13 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v64 : BitVec 32 := Scalar.addi v2 c13_i32
  let c16_i32_56 : BitVec 32 := 16#32
  let v65 : BitVec 32 := Scalar.remsi v64 c16_i32_56
  let c1_i32_58 : BitVec 32 := 1#32
  let v66 : BitVec 32 := Scalar.muli v65 c1_i32_58
  let v67 : BitVec 32 := Scalar.addi c0_i32_59 v66
  v67.toNat
def k0_dev14 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v68 : BitVec 32 := Scalar.addi v2 c14_i32
  let c16_i32_60 : BitVec 32 := 16#32
  let v69 : BitVec 32 := Scalar.remsi v68 c16_i32_60
  let c1_i32_62 : BitVec 32 := 1#32
  let v70 : BitVec 32 := Scalar.muli v69 c1_i32_62
  let v71 : BitVec 32 := Scalar.addi c0_i32_63 v70
  v71.toNat
def k0_dev15 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v72 : BitVec 32 := Scalar.addi v2 c15_i32
  let c16_i32_64 : BitVec 32 := 16#32
  let v73 : BitVec 32 := Scalar.remsi v72 c16_i32_64
  let c1_i32_66 : BitVec 32 := 1#32
  let v74 : BitVec 32 := Scalar.muli v73 c1_i32_66
  let v75 : BitVec 32 := Scalar.addi c0_i32_67 v74
  v75.toNat
def k0_off2 (d0 : Dev nD) (c1_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v76 : BitVec 32 := Scalar.addi v2 c1_i32_69
  let c16_i32_70 : BitVec 32 := 16#32
  let v77 : BitVec 32 := Scalar.remsi v76 c16_i32_70
  let c256_i32_71 : BitVec 32 := 256#32
  let v78 : BitVec 32 := Scalar.muli v77 c256_i32_71
  let c0_i32_79 : BitVec 32 := 0#32
  ![v78.toNat, 0]
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_69 : BitVec 32 := 1#32
  let v76 : BitVec 32 := Scalar.addi v2 c1_i32_69
  let c16_i32_70 : BitVec 32 := 16#32
  let v77 : BitVec 32 := Scalar.remsi v76 c16_i32_70
  let c1_i32_75 : BitVec 32 := 1#32
  let v79 : BitVec 32 := Scalar.muli v77 c1_i32_75
  let v80 : BitVec 32 := Scalar.addi c0_i32_76 v79
  v80.toNat
def k0_dev17 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v88 : BitVec 32 := Scalar.addi v2 c2_i32_80
  let c16_i32_81 : BitVec 32 := 16#32
  let v89 : BitVec 32 := Scalar.remsi v88 c16_i32_81
  let c1_i32_86 : BitVec 32 := 1#32
  let v91 : BitVec 32 := Scalar.muli v89 c1_i32_86
  let v92 : BitVec 32 := Scalar.addi c0_i32_87 v91
  v92.toNat
def k0_dev18 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_91 : BitVec 32 := 3#32
  let v100 : BitVec 32 := Scalar.addi v2 c3_i32_91
  let c16_i32_92 : BitVec 32 := 16#32
  let v101 : BitVec 32 := Scalar.remsi v100 c16_i32_92
  let c1_i32_97 : BitVec 32 := 1#32
  let v103 : BitVec 32 := Scalar.muli v101 c1_i32_97
  let v104 : BitVec 32 := Scalar.addi c0_i32_98 v103
  v104.toNat
def k0_dev19 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_102 : BitVec 32 := 4#32
  let v112 : BitVec 32 := Scalar.addi v2 c4_i32_102
  let c16_i32_103 : BitVec 32 := 16#32
  let v113 : BitVec 32 := Scalar.remsi v112 c16_i32_103
  let c1_i32_108 : BitVec 32 := 1#32
  let v115 : BitVec 32 := Scalar.muli v113 c1_i32_108
  let v116 : BitVec 32 := Scalar.addi c0_i32_109 v115
  v116.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v124 : BitVec 32 := Scalar.addi v2 c5_i32_113
  let c16_i32_114 : BitVec 32 := 16#32
  let v125 : BitVec 32 := Scalar.remsi v124 c16_i32_114
  let c1_i32_119 : BitVec 32 := 1#32
  let v127 : BitVec 32 := Scalar.muli v125 c1_i32_119
  let v128 : BitVec 32 := Scalar.addi c0_i32_120 v127
  v128.toNat
def k0_dev21 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_124 : BitVec 32 := 6#32
  let v136 : BitVec 32 := Scalar.addi v2 c6_i32_124
  let c16_i32_125 : BitVec 32 := 16#32
  let v137 : BitVec 32 := Scalar.remsi v136 c16_i32_125
  let c1_i32_130 : BitVec 32 := 1#32
  let v139 : BitVec 32 := Scalar.muli v137 c1_i32_130
  let v140 : BitVec 32 := Scalar.addi c0_i32_131 v139
  v140.toNat
def k0_dev22 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_135 : BitVec 32 := 7#32
  let v148 : BitVec 32 := Scalar.addi v2 c7_i32_135
  let c16_i32_136 : BitVec 32 := 16#32
  let v149 : BitVec 32 := Scalar.remsi v148 c16_i32_136
  let c1_i32_141 : BitVec 32 := 1#32
  let v151 : BitVec 32 := Scalar.muli v149 c1_i32_141
  let v152 : BitVec 32 := Scalar.addi c0_i32_142 v151
  v152.toNat
def k0_dev23 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_146 : BitVec 32 := 8#32
  let v160 : BitVec 32 := Scalar.addi v2 c8_i32_146
  let c16_i32_147 : BitVec 32 := 16#32
  let v161 : BitVec 32 := Scalar.remsi v160 c16_i32_147
  let c1_i32_152 : BitVec 32 := 1#32
  let v163 : BitVec 32 := Scalar.muli v161 c1_i32_152
  let v164 : BitVec 32 := Scalar.addi c0_i32_153 v163
  v164.toNat
def k0_dev24 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v172 : BitVec 32 := Scalar.addi v2 c9_i32_157
  let c16_i32_158 : BitVec 32 := 16#32
  let v173 : BitVec 32 := Scalar.remsi v172 c16_i32_158
  let c1_i32_163 : BitVec 32 := 1#32
  let v175 : BitVec 32 := Scalar.muli v173 c1_i32_163
  let v176 : BitVec 32 := Scalar.addi c0_i32_164 v175
  v176.toNat
def k0_dev25 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_168 : BitVec 32 := 10#32
  let v184 : BitVec 32 := Scalar.addi v2 c10_i32_168
  let c16_i32_169 : BitVec 32 := 16#32
  let v185 : BitVec 32 := Scalar.remsi v184 c16_i32_169
  let c1_i32_174 : BitVec 32 := 1#32
  let v187 : BitVec 32 := Scalar.muli v185 c1_i32_174
  let v188 : BitVec 32 := Scalar.addi c0_i32_175 v187
  v188.toNat
def k0_dev26 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_179 : BitVec 32 := 11#32
  let v196 : BitVec 32 := Scalar.addi v2 c11_i32_179
  let c16_i32_180 : BitVec 32 := 16#32
  let v197 : BitVec 32 := Scalar.remsi v196 c16_i32_180
  let c1_i32_185 : BitVec 32 := 1#32
  let v199 : BitVec 32 := Scalar.muli v197 c1_i32_185
  let v200 : BitVec 32 := Scalar.addi c0_i32_186 v199
  v200.toNat
def k0_dev27 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_190 : BitVec 32 := 12#32
  let v208 : BitVec 32 := Scalar.addi v2 c12_i32_190
  let c16_i32_191 : BitVec 32 := 16#32
  let v209 : BitVec 32 := Scalar.remsi v208 c16_i32_191
  let c1_i32_196 : BitVec 32 := 1#32
  let v211 : BitVec 32 := Scalar.muli v209 c1_i32_196
  let v212 : BitVec 32 := Scalar.addi c0_i32_197 v211
  v212.toNat
def k0_dev28 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_201 : BitVec 32 := 13#32
  let v220 : BitVec 32 := Scalar.addi v2 c13_i32_201
  let c16_i32_202 : BitVec 32 := 16#32
  let v221 : BitVec 32 := Scalar.remsi v220 c16_i32_202
  let c1_i32_207 : BitVec 32 := 1#32
  let v223 : BitVec 32 := Scalar.muli v221 c1_i32_207
  let v224 : BitVec 32 := Scalar.addi c0_i32_208 v223
  v224.toNat
def k0_dev29 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_212 : BitVec 32 := 14#32
  let v232 : BitVec 32 := Scalar.addi v2 c14_i32_212
  let c16_i32_213 : BitVec 32 := 16#32
  let v233 : BitVec 32 := Scalar.remsi v232 c16_i32_213
  let c1_i32_218 : BitVec 32 := 1#32
  let v235 : BitVec 32 := Scalar.muli v233 c1_i32_218
  let v236 : BitVec 32 := Scalar.addi c0_i32_219 v235
  v236.toNat
def k0_dev30 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_223 : BitVec 32 := 15#32
  let v244 : BitVec 32 := Scalar.addi v2 c15_i32_223
  let c16_i32_224 : BitVec 32 := 16#32
  let v245 : BitVec 32 := Scalar.remsi v244 c16_i32_224
  let c1_i32_229 : BitVec 32 := 1#32
  let v247 : BitVec 32 := Scalar.muli v245 c1_i32_229
  let v248 : BitVec 32 := Scalar.addi c0_i32_230 v247
  v248.toNat
def k0_off3 (d0 : Dev nD) (c0_i32_237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v260 : BitVec 32 := Scalar.subi v2 c0_i32_237
  let c1_i32_238 : BitVec 32 := 1#32
  let v261 : BitVec 32 := Scalar.subi v260 c1_i32_238
  let c16_i32_239 : BitVec 32 := 16#32
  let v262 : BitVec 32 := Scalar.addi v261 c16_i32_239
  let c16_i32_240 : BitVec 32 := 16#32
  let v263 : BitVec 32 := Scalar.remsi v262 c16_i32_240
  let c256_i32_241 : BitVec 32 := 256#32
  let v264 : BitVec 32 := Scalar.muli v263 c256_i32_241
  let c0_i32_246 : BitVec 32 := 0#32
  ![v264.toNat, 0]
def k0_off4 (d0 : Dev nD) (c0_i32_234 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v257 : BitVec 32 := Scalar.subi v2 c0_i32_234
  let c16_i32_235 : BitVec 32 := 16#32
  let v258 : BitVec 32 := Scalar.addi v257 c16_i32_235
  let c16_i32_236 : BitVec 32 := 16#32
  let v259 : BitVec 32 := Scalar.remsi v258 c16_i32_236
  let c256_i32_247 : BitVec 32 := 256#32
  let v270 : BitVec 32 := Scalar.muli v259 c256_i32_247
  let c0_i32_252 : BitVec 32 := 0#32
  ![v270.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_253 : BitVec 32 := 256#32
  let v276 : BitVec 32 := Scalar.muli v2 c256_i32_253
  let v277 : Index := Scalar.indexCast v276
  let c0_254 : Index := 0#32
  ![v277.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Proto.lean ====
/-
The protocol of the distributed matrix product: sixteen devices on a line closed to a ring of offsets, the semaphores
they share, what each signal and each transfer hands over, and what each device owes when the kernel starts.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Rounds
public import Idealize.ShloMosaic.Lib.Ring
public import Idealize.ShloMosaic.Lib.SparseCore.ProtocolKit
public import Idealize.ShloMosaic.Lib.Tactic

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

/-! ## The resource algebra: the pipeline's rounds, the devices' rounds (fifteen duty names), the local transfers' counters -/

/-- The devices' rounds: fifteen duty names at each cell. -/
abbrev UB : Type := URounds (GSem nD τ sig) (Fin 15)
/-- All ghost state: the pipeline's rounds, the devices' rounds, the local copies' counters. -/
abbrev UU : Type := UR sig nD τ × (UB × Counters)

local notation "𝕄" => MT nD τ sig Unit (Elt F) ℕ UU ℕ

/-- The pipeline's rounds, in the first place. -/
abbrev EP : Emb (UR sig nD τ) (MT nD τ sig Unit (Elt F) ℕ UU ℕ) := embL
/-- The devices' rounds, in the middle of the triple. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local copies' counters, in the last place. -/
abbrev EC : UEmb Counters (MT nD τ sig Unit (Elt F) ℕ UU ℕ) := countersEmb

variable (m : (ℓ : Loc nD τ sig) → Buf (Elt F) ℓ) (ρ : Dev nD → PrngReg)

/-- The memory at launch: the given contents, every counter zero. -/
def s₀ : MemSt nD τ sig (Elt F) := ⟨m, fun _ => 0, ρ⟩

/-! ## Who talks to whom -/

/-- The device `r + 1` places after `c`, around the sixteen: the one `c` sends its transfer number `r` to. -/
def peer (c : Dev nD) (r : Fin 15) : Dev nD := ⟨(c.val + r.val + 1) % 16, Nat.mod_lt _ (by decide)⟩

/-- Going `r + 1` places and then the complement brings one home. -/
theorem peer_rev (c : Dev nD) (r : Fin 15) : peer (peer c r) r.rev = c := by revert c r; decide +kernel
/-- The same the other way round. -/
theorem peer_rev' (c : Dev nD) (r : Fin 15) : peer (peer c r.rev) r = c := by revert c r; decide +kernel
/-- Different offsets lead to different devices. -/
theorem peer_inj (c : Dev nD) : Function.Injective (peer c) := by revert c; decide +kernel
/-- The other devices are the fifteen peers. -/
theorem erase_self (c : Dev nD) : (Finset.univ.erase c : Finset (Dev nD)) = Finset.univ.map ⟨peer c, peer_inj c⟩ := by
  revert c; decide +kernel

/-- At a fixed offset, `peer` permutes the devices. -/
def turn (r : Fin 15) : Dev nD ≃ Dev nD := ⟨fun c => peer c r, fun c => peer c r.rev, fun c => peer_rev c r, fun c => peer_rev' c r⟩

/-! ## Semaphores and cells -/

/-- The barrier semaphore the devices greet each other on. -/
abbrev barS : Sem sig := (SemArray.scalar (sig.barrier 0 rfl) : Sems sig S_).sem
/-- The completion semaphore of the sending side of transfer `r`, -/
def sendS (r : Fin 15) : DmaSem sig := ⟨r.val + 3, by have := r.isLt; show _ < 36; omega⟩
/-- of its receiving side, -/
def recvS (r : Fin 15) : DmaSem sig := ⟨r.val + 19, by have := r.isLt; show _ < 36; omega⟩
/-- and of the copies of weights into buffer `b`. -/
def wS (b : Fin 2) : DmaSem sig := ⟨b.val + 34, by have := b.isLt; show _ < 36; omega⟩

/-- Device `c`'s barrier cell, -/
abbrev barCell (c : Dev nD) : GSem nD τ sig := ((c : Thread nD τ), .reg barS)
/-- its cell for the sending side of transfer `r`, -/
abbrev sendCell (c : Dev nD) (r : Fin 15) : GSem nD τ sig := ((c : Thread nD τ), .dma (sendS r))
/-- and for the receiving side. -/
abbrev recvCell (c : Dev nD) (r : Fin 15) : GSem nD τ sig := ((c : Thread nD τ), .dma (recvS r))

/-- The kinds of cell a device has: its barrier, its fifteen sending sides, its fifteen receiving sides. -/
abbrev CK : Type := Unit ⊕ (Fin 15 ⊕ Fin 15)
/-- The semaphore of each kind of cell. -/
abbrev csem : CK → SemLoc sig := fun
  | .inl _ => .reg barS
  | .inr (.inl r) => .dma (sendS r)
  | .inr (.inr r) => .dma (recvS r)
/-- The cell of a device and a kind. -/
abbrev kcell (ck : Dev nD × CK) : GSem nD τ sig := ((ck.1 : Thread nD τ), csem ck.2)

/-! ## Memrefs -/

/-- The staged block of x, -/
abbrev xM : Memref sig .tc .vmem S4096x256 .f32 := Memref.whole cc0_stg0_0
/-- the staged result, -/
abbrev oM : Memref sig .tc .vmem S256x2048 .f32 := Memref.whole cc0_stg1_0
/-- the weights in main memory, -/
abbrev wM : Memref sig .tc .hbm S4096x2048 .f32 := Memref.whole main_arg1
/-- the sending buffer, -/
abbrev xsM : Memref sig .tc .vmem S4096x256 .bf16 := Memref.whole cc0_scratch0
/-- the receiving buffer, -/
abbrev xbM : Memref sig .tc .vmem S16x256x256 .bf16 := Memref.whole cc0_scratch1
/-- and the buffer for the weights. -/
abbrev wbM : Memref sig .tc .vmem S2x256x2048 .f32 := Memref.whole cc0_scratch2

/-- Each chunk lies within the sending buffer, -/
theorem chunk_inb (j : Fin 16) : ∀ a, (![256 * j.val, 0] : Fin 2 → Nat) a + S256x256.size a ≤ S4096x256.size a := by
  revert j; decide +kernel
/-- each slot within the receiving buffer, -/
theorem slot_inb (s : Fin 16) : ∀ a, (![s.val, 0, 0] : Fin 3 → Nat) a + S1x256x256.size a ≤ S16x256x256.size a := by
  revert s; decide +kernel
/-- each half within the buffer for the weights, -/
theorem wslot_inb (b : Fin 2) : ∀ a, (![b.val, 0, 0] : Fin 3 → Nat) a + S1x256x2048.size a ≤ S2x256x2048.size a := by
  revert b; decide +kernel
/-- and each block of rows within the weights. -/
theorem wsrc_inb (j : Fin 16) : ∀ a, (![256 * j.val, 0] : Fin 2 → Nat) a + S256x2048.size a ≤ S4096x2048.size a := by
  revert j; decide +kernel

/-- Rows `256 j …` of the sending buffer: the chunk for device `j`. -/
abbrev chunkR (j : Fin 16) : Rect S4096x256 := Rect.unit (s := S4096x256) ![256 * j.val, 0] S256x256.size (chunk_inb j)
/-- The same, as memory. -/
abbrev chunkM (j : Fin 16) : Memref sig .tc .vmem S256x256 .bf16 := xsM.slice (chunkR j) (fun _ => rfl)
/-- Slot `s` of the receiving buffer. -/
abbrev slotR (s : Fin 16) : Rect S16x256x256 := Rect.unit (s := S16x256x256) ![s.val, 0, 0] S1x256x256.size (slot_inb s)
/-- The same, as memory, without its axis of length 1. -/
abbrev slotM (s : Fin 16) : Memref sig .tc .vmem S256x256 .bf16 :=
  (xbM.slice (slotR s) (fun _ => rfl)).squeeze S256x256 squeezes_S1x256x256_S256x256
/-- Buffer `b` of the two for the weights. -/
abbrev wslotR (b : Fin 2) : Rect S2x256x2048 := Rect.unit (s := S2x256x2048) ![b.val, 0, 0] S1x256x2048.size (wslot_inb b)
/-- The same, as memory, without its axis of length 1. -/
abbrev wslotM (b : Fin 2) : Memref sig .tc .vmem S256x2048 .f32 :=
  (wbM.slice (wslotR b) (fun _ => rfl)).squeeze S256x2048 squeezes_S1x256x2048_S256x2048
/-- Rows `256 j …` of the weights. -/
abbrev wsrcR (j : Fin 16) : Rect S4096x2048 := Rect.unit (s := S4096x2048) ![256 * j.val, 0] S256x2048.size (wsrc_inb j)
/-- The same, as memory. -/
abbrev wsrcM (j : Fin 16) : Memref sig .tc .hbm S256x2048 .f32 := wM.slice (wsrcR j) (fun _ => rfl)

/-- What one chunk's transfer credits. -/
abbrev N : ℕ := (slotM 1).view.dmaCredit
/-- It is positive. -/
theorem N_pos : 0 < N := View.dmaCredit_pos _ (by decide)

/-- Every slot takes as much, -/
theorem slot_credit (s : Fin 16) : (slotM s).view.dmaCredit = N := rfl
/-- and every chunk. -/
theorem chunk_credit (j : Fin 16) : (chunkM j).view.dmaCredit = N := rfl

/-! ## Contents -/

/-- Device `c`'s block of `x`, as it is staged. -/
def xstg (c : Dev nD) : (cc0_stg0_0 : Ref sig .tc).ty.Contents (Elt F) :=
  (win0_0.blk (0 : Fin 1)).view.read (Elt F) ((s₀ m ρ).mem ((c : Thread nD τ).loc main_arg0))

/-- The sending buffer's contents: that block, narrowed. -/
def xs (c : Dev nD) : (cc0_scratch0 : Ref sig .tc).ty.Contents (Elt F) := k0_pay1 (xstg m ρ c)

/-- The chunk of device `c`'s sending buffer for device `j`. -/
def chunkVal (c j : Dev nD) : S256x256.Idx → Elt F .bf16 := (chunkM j).view.read (Elt F) (xs m ρ c)

/-- The weights, on device `c`, and their rows `256 j …`. -/
def wts (c : Dev nD) : (main_arg1 : Ref sig .tc).ty.Contents (Elt F) := (s₀ m ρ).mem ((c : Thread nD τ).loc main_arg1)
/-- The block of rows `256 j …` of the weights. -/
def wVal (c : Dev nD) (j : Fin 16) : S256x2048.Idx → Elt F .f32 := (wsrcM j).view.read (Elt F) (wts m ρ c)

/-- The chunk for `j` of device `c`'s sending buffer is `c`'s, filled. -/
def chunkPts (c : Dev nD) (j : Fin 16) : sProp 𝕄 :=
  (chunkM j).view.loc (c : Thread nD τ) ↦[(chunkM j).view.set]{fullShare} xs m ρ c
/-- Slot `s` of device `c`'s receiving buffer, holding `f`. -/
def slotPts (c : Dev nD) (s : Fin 16) (f : Buf (Elt F) ((c : Thread nD τ).loc cc0_scratch1)) : sProp 𝕄 :=
  (slotM s).view.loc (c : Thread nD τ) ↦[(slotM s).view.set]{fullShare} f

omit [FloatOps F] in
instance slotPts_storable (c : Dev nD) (s) (f) : BI.Storable (upEmb : UEmb _ 𝕄) (slotPts (F := F) c s f) := by unfold slotPts; infer_instance
instance chunkPts_storable (c : Dev nD) (j) : BI.Storable (upEmb : UEmb _ 𝕄) (chunkPts (F := F) m ρ c j) := by unfold chunkPts; infer_instance

/-! ## The schedule -/

/-- The greeting numbered `d` at `c`'s barrier comes from `peer c d` and hands over the slot `c` will send into. -/
def barPay (c : Dev nD) (d : Fin 15) : sProp 𝕄 := iprop(∃ f, slotPts (peer c d) d.succ f)
/-- A finished send gives the chunk back; -/
def sendPay (c : Dev nD) (r : Fin 15) : sProp 𝕄 := chunkPts m ρ c (peer c r)
/-- a finished receive gives the slot, filled with the chunk of the device `r + 1` places before. -/
def recvPay (c : Dev nD) (r : Fin 15) : sProp 𝕄 :=
  iprop(∃ f, ⌜(slotM r.succ).view.read (Elt F) f = chunkVal m ρ (peer c r.rev) c⌝ ∗ slotPts c r.succ f)

omit [FloatOps F] in
instance barPay_storable (c : Dev nD) (d) : BI.Storable (upEmb : UEmb _ 𝕄) (barPay (F := F) c d) := by unfold barPay; infer_instance
instance sendPay_storable (c : Dev nD) (r) : BI.Storable (upEmb : UEmb _ 𝕄) (sendPay (F := F) m ρ c r) := by unfold sendPay; infer_instance
instance recvPay_storable (c : Dev nD) (r) : BI.Storable (upEmb : UEmb _ 𝕄) (recvPay (F := F) m ρ c r) := by unfold recvPay; infer_instance

/-- The duties of a semaphore: fifteen greetings at the barrier, one completion at each transfer semaphore. -/
def semDuties : SemLoc sig → Finset (Fin 15)
  | .reg s => if s = barS then Finset.univ else ∅
  | .dma q => if (3 ≤ q.val ∧ q.val < 18) ∨ (19 ≤ q.val ∧ q.val < 34) then {0} else ∅

/-- What duty `d` at a semaphore of device `c` hands over. -/
def semPay (c : Dev nD) (d : Fin 15) : SemLoc sig → sProp 𝕄
  | .reg _ => barPay c d
  | .dma q =>
    if h : 3 ≤ q.val ∧ q.val < 18 then sendPay m ρ c ⟨q.val - 3, by omega⟩
    else if h : 19 ≤ q.val ∧ q.val < 34 then recvPay m ρ c ⟨q.val - 19, by omega⟩
    else iprop(emp)

/-- How many units one duty brings: one at a barrier, one landing elsewhere. -/
def semAmount : SemLoc sig → ℕ
  | .reg _ => 1
  | .dma _ => N

/-- One round: every cell serves round 0 only. -/
def Rd : Rounds.Schedule (GSem nD τ sig) (Fin 15) 𝕄 where
  duties g r := if r = 0 ∧ g.1.2 = .tc then semDuties g.2 else ∅
  unitless _ := False
  amount g _ _ := semAmount g.2
  payload g _ d := semPay m ρ g.1.1 d g.2
  amount_pos g _ _ _ := by
    show 0 < semAmount g.2
    unfold semAmount; split
    · exact Nat.one_pos
    · exact N_pos

instance Rd_payload_storable (g : GSem nD τ sig) (r : ℕ) (d : Fin 15) :
    BI.Storable (upEmb : UEmb _ 𝕄) ((Rd (F := F) m ρ).payload g r d) := by
  show BI.Storable upEmb (semPay m ρ g.1.1 d g.2)
  unfold semPay
  (repeat' split) <;> infer_instance

section Sched
variable (c : Dev nD) (r : Fin 15)

/-- A barrier has fifteen duties, -/
theorem duties_bar : (Rd (F := F) m ρ).duties (barCell c) 0 = Finset.univ := by
  dsimp only [Rd, semDuties]; rw [if_pos ⟨rfl, rfl⟩, if_pos rfl]
/-- a sending cell one, -/
theorem duties_send : (Rd (F := F) m ρ).duties (sendCell c r) 0 = {0} := by
  have := r.isLt
  dsimp only [Rd, semDuties]; rw [if_pos ⟨rfl, rfl⟩]; exact if_pos (.inl (show 3 ≤ r.val + 3 ∧ r.val + 3 < 18 by omega))
/-- a receiving cell one, -/
theorem duties_recv : (Rd (F := F) m ρ).duties (recvCell c r) 0 = {0} := by
  have := r.isLt
  dsimp only [Rd, semDuties]; rw [if_pos ⟨rfl, rfl⟩]; exact if_pos (.inr (show 19 ≤ r.val + 19 ∧ r.val + 19 < 34 by omega))
/-- and no cell has any in a later round. -/
theorem duties_later (g : GSem nD τ sig) : ∀ k, 1 ≤ k → (Rd (F := F) m ρ).duties g k = ∅ :=
  fun k hk => by dsimp only [Rd]; rw [if_neg fun h => by omega]

/-- A greeting is one unit, -/
theorem amount_bar (d : Fin 15) : (Rd (F := F) m ρ).amount (barCell c) 0 d = 1 := rfl
/-- a finished send one chunk's units, -/
theorem amount_send (d : Fin 15) : (Rd (F := F) m ρ).amount (sendCell c r) 0 d = N := rfl
/-- and so is a landing. -/
theorem amount_recv (d : Fin 15) : (Rd (F := F) m ρ).amount (recvCell c r) 0 d = N := rfl

/-- So a barrier's round brings fifteen units, -/
theorem expect_bar : (Rd (F := F) m ρ).expect (barCell c) 0 = 15 := by
  unfold Schedule.expect Schedule.amountOf
  rw [duties_bar, Finset.sum_congr rfl fun d _ => amount_bar m ρ c d]; rfl
/-- a sending cell's one chunk's, -/
theorem expect_send : (Rd (F := F) m ρ).expect (sendCell c r) 0 = N := by
  unfold Schedule.expect Schedule.amountOf; rw [duties_send, Finset.sum_singleton, amount_send]
/-- and a receiving cell's as well. -/
theorem expect_recv : (Rd (F := F) m ρ).expect (recvCell c r) 0 = N := by
  unfold Schedule.expect Schedule.amountOf; rw [duties_recv, Finset.sum_singleton, amount_recv]

/-- What a greeting hands over, -/
theorem payload_bar (d : Fin 15) : (Rd (F := F) m ρ).payload (barCell c) 0 d = barPay c d := rfl
/-- what a finished send does, -/
theorem payload_send (d : Fin 15) : (Rd (F := F) m ρ).payload (sendCell c r) 0 d = sendPay m ρ c r := by
  have := r.isLt
  dsimp only [Rd, semPay]
  exact (dif_pos (show 3 ≤ r.val + 3 ∧ r.val + 3 < 18 by omega)).trans (congrArg (sendPay m ρ c) (Fin.ext (Nat.add_sub_cancel _ _)))
/-- and what a landing does. -/
theorem payload_recv (d : Fin 15) : (Rd (F := F) m ρ).payload (recvCell c r) 0 d = recvPay m ρ c r := by
  have := r.isLt
  dsimp only [Rd, semPay]
  exact (dif_neg (show ¬ (3 ≤ r.val + 19 ∧ r.val + 19 < 18) by omega)).trans
    ((dif_pos (show 19 ≤ r.val + 19 ∧ r.val + 19 < 34 by omega)).trans (congrArg (recvPay m ρ c) (Fin.ext (Nat.add_sub_cancel _ _))))

/-- What the barrier wait collects: one slot of every other device. -/
theorem rest_bar : bigSep ((Rd (F := F) m ρ).duties (barCell c) 0 \ ∅) (fun d => (Rd (F := F) m ρ).payload (barCell c) 0 d)
    = bigSep Finset.univ (fun d => barPay c d) := by
  rw [Finset.sdiff_empty, duties_bar]; rfl
/-- What the wait for a send collects: the chunk. -/
theorem rest_send : bigSep ((Rd (F := F) m ρ).duties (sendCell c r) 0 \ ∅) (fun d => (Rd (F := F) m ρ).payload (sendCell c r) 0 d) = sendPay m ρ c r := by
  rw [Finset.sdiff_empty, duties_send, bigSep_singleton, payload_send]
/-- What the wait for a landing collects: the filled slot. -/
theorem rest_recv : bigSep ((Rd (F := F) m ρ).duties (recvCell c r) 0 \ ∅) (fun d => (Rd (F := F) m ρ).payload (recvCell c r) 0 d) = recvPay m ρ c r := by
  rw [Finset.sdiff_empty, duties_recv, bigSep_singleton, payload_recv]

end Sched

/-! ## What is owed -/

/-- From transfer `k` on: the landing credits at the peers' receiving cells. -/
def oweSend (c : Dev nD) (k : ℕ) : CellTallies nD τ sig Unit := ∑ r ∈ finFrom 15 k, tallyAt (recvCell (peer c r) r) () N
/-- From greeting `k` on: one unit at each peer's barrier. -/
def oweBar (c : Dev nD) (k : ℕ) : CellTallies nD τ sig Unit := ∑ r ∈ finFrom 15 k, tallyAt (barCell (peer c r)) () 1
/-- At launch a device owes all of it. -/
def O₀ (c : Dev nD) : CellTallies nD τ sig Unit := oweSend c 0 + oweBar c 0

/-- A send discharges one landing. -/
theorem oweSend_succ (c : Dev nD) (r : Fin 15) : oweSend c r.val = oweSend c (r.val + 1) + tallyAt (recvCell (peer c r) r) () N :=
  sum_finFrom_succ r.isLt _
/-- A greeting discharges one unit at one barrier. -/
theorem oweBar_succ (c : Dev nD) (r : Fin 15) (O : CellTallies nD τ sig Unit) :
    O + oweBar c r.val = (O + oweBar c (r.val + 1)) + tallyAt (barCell (peer c r)) () 1 :=
  add_sum_finFrom_succ O r.isLt _
/-- After the last send no landing is owed, -/
theorem oweSend_end (c : Dev nD) : oweSend c 15 = 0 := sum_finFrom_self _
/-- and after the last greeting no greeting. -/
theorem oweBar_end (c : Dev nD) : oweBar c 15 = 0 := sum_finFrom_self _

/-! ## The order in which waits may block -/

/-- Each cell has one kind of wait. -/
def L (g : GSem nD τ sig) : Finset Unit := if g.1.2 = .tc then {()} else ∅
/-- Barrier cells at level 1, receiving cells at 2, everything else at 0. -/
def semLv : SemLoc sig → ℕ
  | .reg _ => 1
  | .dma q => if 19 ≤ q.val ∧ q.val < 34 then 2 else 0
/-- A cell's level is its semaphore's. -/
def lv (g : GSem nD τ sig) (_ : Unit) : ℕ := semLv g.2

/-- Only the cells of the devices' one thread have a level; -/
theorem L_of_ne (g : GSem nD τ sig) (h : g.1.2 ≠ .tc) : L g = ∅ := if_neg h
/-- those all have. -/
theorem L_tc (c : Dev nD) (sm : SemLoc sig) : L ((c : Thread nD τ), sm) = {()} := if_pos rfl
/-- Receiving cells are at level 2. -/
theorem lv_recv (c : Dev nD) (r : Fin 15) : lv (recvCell c r) () = 2 := by
  have := r.isLt; exact if_pos (show 19 ≤ r.val + 19 ∧ r.val + 19 < 34 by omega)

/-- A sum of tallies is positive somewhere only where one of its terms is. -/
theorem sum_tally_pos {I : Type} (s : Finset I) (f : I → GSem nD τ sig) (n : ℕ) {g : GSem nD τ sig} {u : Unit}
    (h : 0 < (∑ i ∈ s, (tallyAt (f i) () n : CellTallies nD τ sig Unit)) g u) : ∃ i ∈ s, g = f i := by
  classical
  rw [Finset.sum_apply, Finsupp.finset_sum_apply] at h
  obtain ⟨i, hi, hp⟩ := Finset.exists_ne_zero_of_sum_ne_zero (Nat.pos_iff_ne_zero.mp h)
  refine ⟨i, hi, ?_⟩
  by_contra hn
  exact hp (by rw [tallyAt_apply, if_neg fun h' => hn h'.1])

/-- Of landings, only those at peers' receiving cells are owed; -/
theorem oweSend_pos {c : Dev nD} {k : ℕ} {g : GSem nD τ sig} {u : Unit} (h : 0 < oweSend c k g u) : ∃ r, g = recvCell (peer c r) r := by
  obtain ⟨r, -, hr⟩ := sum_tally_pos _ (fun r => recvCell (peer c r) r) N h; exact ⟨r, hr⟩
/-- of greetings, only those at peers' barriers; -/
theorem oweBar_pos {c : Dev nD} {k : ℕ} {g : GSem nD τ sig} {u : Unit} (h : 0 < oweBar c k g u) : ∃ r, g = barCell (peer c r) := by
  obtain ⟨r, -, hr⟩ := sum_tally_pos _ (fun r => barCell (peer c r)) 1 h; exact ⟨r, hr⟩
/-- and nothing else is owed at launch. -/
theorem O₀_pos {c : Dev nD} {g : GSem nD τ sig} {u : Unit} (h : 0 < O₀ c g u) : (∃ r, g = recvCell (peer c r) r) ∨ ∃ r, g = barCell (peer c r) := by
  unfold O₀ at h
  rw [Pi.add_apply, Finsupp.add_apply] at h
  rcases Nat.eq_zero_or_pos (oweSend c 0 g u) with h0 | h0
  · rw [h0, Nat.zero_add] at h; exact .inr (oweBar_pos h)
  · exact .inl (oweSend_pos h0)

omit [FloatOps F] in
/-- A wait on a semaphore at level 0 may block whatever is owed at launch. -/
theorem mayWait_stage (c : Dev nD) (q : DmaSem sig) (hq : semLv (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; exact hq.le)
      (fun g u hg => by
        rcases O₀_pos hg with ⟨r, rfl⟩ | ⟨r, rfl⟩
        · rw [lv_recv]; decide
        · exact Nat.one_pos)
  · rw [MayWait_zero]; iintro -; iempintro

omit [FloatOps F] in
/-- The barrier wait may block while only receiving credits are owed. -/
theorem mayWait_bar (c : Dev nD) (k : ℕ) :
    (levAts L lv : sProp 𝕄) ⊢ MayWait (c : Thread nD τ) (.reg barS) () (oweSend c k) :=
  MayOwe.of_cut (L := L) (lev := lv) 1 (fun p hp => by rw [Finset.mem_singleton.mp hp, L_tc]; exact Finset.mem_singleton_self _)
    (fun g u hg => by obtain ⟨r, rfl⟩ := oweSend_pos hg; exact Finset.mem_singleton_self _)
    (fun p hp => by rw [Finset.mem_singleton.mp hp]; exact le_rfl)
    (fun g u hg => by obtain ⟨r, rfl⟩ := oweSend_pos hg; rw [lv_recv]; decide)

end Cert.KernelProof

end
-- ==== Proof.Steps.lean ====
/-
One lemma for each kind of step of the kernel: a greeting, the barrier wait, a send, a copy of weights started and
waited for, a receive waited for, the loads, and the wait for a send.
-/
module

public import proofs.«01_k».proof.Proof.Proto
public import Idealize.ShloMosaic.Lib.Exec.Geometry

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- No loop needs a measure. -/
abbrev 𝒱₀ : Variants := Variants.none

/-- A program's weakest precondition on device `c`, as the body's proof uses it. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A finished program gives its value to what follows. -/
theorem step_ret (c : Dev nD) {α : Type} (a : α) (Q : α → sProp 𝕄) : Q a ⊢ WP c (F := F) (.ret a) Q := by
  rw [show WP c (F := F) (.ret a) Q = _ from wp_ret ..]; iintro H; imodintro; iexact H

/-! ## What every device knows -/

/-- Every cell's invariant, that every cell has reached its round, and the levels. -/
def known : sProp 𝕄 :=
  iprop((bigSep Finset.univ fun ck : Dev nD × CK => cellInv ER (Rd m ρ) (K ck) (kcell ck))
    ∗ (bigSep Finset.univ fun ck : Dev nD × CK => reached ER (kcell ck) 0) ∗ levAts L lv)

instance known_persistent : BI.Persistent (known m ρ K) := by unfold known; infer_instance

/-- All know each cell's invariant, -/
theorem known_inv (c : Dev nD) (k : CK) : known m ρ K ⊢ cellInv ER (Rd m ρ) (K (c, k)) (kcell (c, k)) := by
  have h := bigSep_elim (Φ := fun ck : Dev nD × CK => (cellInv ER (Rd m ρ) (K ck) (kcell ck) : sProp 𝕄)) (Finset.mem_univ (c, k))
  unfold known; iintro ⟨H, -, -⟩
  iapply (BIBase.Entails.trans h (Entails.of_eq rfl)); iexact H
/-- that it has reached its round, -/
theorem known_reached (c : Dev nD) (k : CK) : known m ρ K ⊢ reached ER (kcell (c, k)) 0 := by
  have h := bigSep_elim (Φ := fun ck : Dev nD × CK => (reached ER (kcell ck) 0 : sProp 𝕄)) (Finset.mem_univ (c, k))
  unfold known; iintro ⟨-, H, -⟩
  iapply (BIBase.Entails.trans h (Entails.of_eq rfl)); iexact H
/-- and the levels. -/
theorem known_lev : known m ρ K ⊢ levAts L lv := by unfold known; iintro ⟨-, -, H⟩; iexact H

/-! ## The states between steps -/

/-- `c` owes `O`, whatever it has waited for. -/
def debt (c : Dev nD) (O : CellTallies nD τ sig Unit) : sProp 𝕄 := iprop(∃ W, owes (c : Thread nD τ) O W)

/-- Before greeting `k`: the greetings still owed, each with its duty and the slot it hands over. -/
def Greet (c : Dev nD) (k : ℕ) : sProp 𝕄 :=
  iprop(debt c (oweSend c 0 + oweBar c k)
    ∗ bigSep (finFrom 15 k) fun r => iprop(dutyTok ER (barCell (peer c r)) 0 r.rev ∗ ∃ f, slotPts c r.rev.succ f))

/-- Before send `k`: the sends still to make, each with its duties, its chunk and the slot it goes to, and the credits of those made. -/
def Sends (c : Dev nD) (k : ℕ) : sProp 𝕄 :=
  iprop(debt c (oweSend c k)
    ∗ (bigSep (finFrom 15 k) fun r => iprop(dutyTok ER (sendCell c r) 0 0 ∗ dutyTok ER (recvCell (peer c r) r) 0 0
        ∗ chunkPts m ρ c (peer c r) ∗ ∃ f, slotPts (peer c r) r.succ f))
    ∗ bigSep (finUpTo 15 k) fun r => cred (tallyAt (sendCell c r) () N))

/-- Before the wait for receive `k`: what the later ones need, and the slots already filled. -/
def Recvs (c : Dev nD) (k : ℕ) : sProp 𝕄 :=
  iprop((bigSep (finFrom 15 k) fun r => iprop(cred (tallyAt (recvCell c r) () N) ∗ atPos ER (recvCell c r) 0 ∅ 0))
    ∗ bigSep (finUpTo 15 k) fun r => iprop(semVal (recvCell c r) 0 ∗ recvPay m ρ c r))

/-- Before the wait for send `k`: what the later ones need, and the chunks given back. -/
def Backs (c : Dev nD) (k : ℕ) : sProp 𝕄 :=
  iprop((bigSep (finFrom 15 k) fun r => iprop(cred (tallyAt (sendCell c r) () N) ∗ atPos ER (sendCell c r) 0 ∅ 0))
    ∗ bigSep (finUpTo 15 k) fun r => iprop(semVal (sendCell c r) 0 ∗ sendPay m ρ c r))

/-- The device `s` places before `c`. -/
def back (c : Dev nD) (s : Fin 16) : Dev nD := ⟨(c.val + 16 - s.val) % 16, Nat.mod_lt _ (by decide)⟩
/-- Going back by nothing stays. -/
theorem back_zero (c : Dev nD) : back c 0 = c := by revert c; decide +kernel
/-- Going back by `r + 1` places is going on by the complement. -/
theorem back_succ (c : Dev nD) (r : Fin 15) : back c r.succ = peer c r.rev := by revert c r; decide +kernel

/-- Buffer `b` for the weights, holding `f`. -/
def wslotPts (c : Dev nD) (b : Fin 2) (f : Buf (Elt F) ((c : Thread nD τ).loc cc0_scratch2)) : sProp 𝕄 :=
  (wslotM b).view.loc (c : Thread nD τ) ↦[(wslotM b).view.set]{fullShare} f
/-- The half of the weights that the copies into buffer `b` read. -/
def half (b : Fin 2) : PosShare TreeShare := if b = 0 then fullShare.left else fullShare.right
/-- That half, held by device `c`. -/
def wHalf (c : Dev nD) (b : Fin 2) : sProp 𝕄 := ((c : Thread nD τ).loc main_arg1) ↦{half b} wts m ρ c

/-- The cell of the copies into buffer `b`, -/
abbrev wCell (c : Dev nD) (b : Fin 2) : GSem nD τ sig := ((c : Thread nD τ), .dma (wS b))
/-- what one copy credits there, -/
abbrev NW : ℕ := (wslotM 0).view.dmaCredit
/-- and that it is positive. -/
theorem NW_pos : 0 < NW := View.dmaCredit_pos _ (by decide)

/-- Buffer `b` free for the next copy; -/
def WFree (c : Dev nD) (b : Fin 2) : sProp 𝕄 := iprop((∃ f, wslotPts c b f) ∗ semVal (wCell c b) 0 ∗ wHalf m ρ c b)
/-- filled with rows `256 j …` of the weights; -/
def WHave (c : Dev nD) (b : Fin 2) (j : Fin 16) : sProp 𝕄 :=
  iprop((∃ f, ⌜(wslotM b).view.read (Elt F) f = wVal m ρ c j⌝ ∗ wslotPts c b f) ∗ semVal (wCell c b) 0 ∗ wHalf m ρ c b)
/-- being filled with them. -/
def WFly (c : Dev nD) (b : Fin 2) (j : Fin 16) : sProp 𝕄 :=
  iprop(∃ fd, Transfers.Flight EC (c : Thread nD τ) (.dma (wS b)) () NW
      iprop(wslotPts c b ((wslotM b).view.write (Elt F) fd (wVal m ρ c j) Finset.univ)
        ∗ ((wsrcM j).view.loc (c : Thread nD τ) ↦[(wsrcM j).view.set]{half b} wts m ρ c))
    ∗ ((wsrcM j).view.loc (c : Thread nD τ) ↦[Finset.univ \ (wsrcM j).view.set]{half b} wts m ρ c))

/-- A filled buffer that is no longer needed is free. -/
theorem WHave_free (c : Dev nD) (b : Fin 2) (j : Fin 16) : WHave m ρ c b j ⊢ WFree m ρ c b := by
  unfold WHave WFree
  iintro ⟨⟨%f, -, Hf⟩, Hrest⟩
  isplitl [Hf]; · iexists f; iexact Hf
  iexact Hrest

section Steps

variable {α : Type} {Q : α → sProp (MT nD τ sig Unit (Elt F) ℕ UU ℕ)} {k : PUnit → Prog (TpuEff nD τ sig (Elt F) Λ₀ .tc) α}

/-- Greeting `r`: the peer's barrier gets a unit, and with it `c`'s slot for that peer's transfer. -/
theorem step_greet (c n : Dev nD) (r : Fin 15) (hn : n = peer c r) (i : ℕ) (hi : i = r.val) :
    known m ρ K ⊢ iprop(Greet c i -∗ (Greet c (i + 1) -∗ WP c (k ⟨⟩) Q)
      -∗ WP c (.op (.semSignal (n, .tc) barS (1#32 : BitVec 32).toInt) k) Q) := by
  subst hn hi
  unfold Greet debt
  rw [bigSep_finFrom_succ r.isLt]
  iintro #HK ⟨⟨%W, HO⟩, ⟨Ht, Hs⟩, Hrest⟩ Hk
  iapply (Rounds.wp_signal 𝒱₀ ER (Rd m ρ) (c : Thread nD τ) none (dst := (peer c r : Thread nD τ)) (κ := K (peer c r, .inl ())) (k' := 1)
      (d := r.rev) (by rw [duties_bar]; exact Finset.mem_univ _) (amount_bar m ρ (peer c r) r.rev) () (oweSend c 0 + oweBar c (r.val + 1))
      (oweBar_succ c r _)) $$ [HO Ht Hs]
  · isplitr; · iapply (known_inv m ρ K (peer c r) (.inl ())); iexact HK
    isplitl [HO]; · iexact HO
    isplitl [Ht]; · iexact Ht
    isplitl [Hs]
    · rw [payload_bar]; unfold barPay; rw [peer_rev]; iexact Hs
    · iapply (known_reached m ρ K (peer c r) (.inl ())); iexact HK
  iintro HO
  iapply Hk
  isplitl [HO]; · iexists W; iexact HO
  iexact Hrest

/-- The barrier wait: every greeting has come, and with them the slots `c` will send into. -/
theorem step_barrier (c : Dev nD) :
    known m ρ K ⊢ iprop(Greet c 15 -∗ cred (tallyAt (barCell c) () 15) -∗ atPos ER (barCell c) 0 ∅ 0 -∗ ((debt c (oweSend c 0) ∗ semVal (barCell c) 0 ∗ bigSep Finset.univ fun r => barPay c r) -∗ WP c (k ⟨⟩) Q)
        -∗ WP c (.op (.semWait barS (15#32 : BitVec 32).toInt) k) Q) := by
  unfold Greet debt
  rw [oweBar_end, add_zero]
  iintro #HK ⟨⟨%W, HO⟩, -⟩ Hc Ha Hk
  iapply (Rounds.wp_wait_rest_token 𝒱₀ ER (Rd m ρ) (c : Thread nD τ) none (κ := K (c, .inl ())) (k' := 15)
      (wpE_semWait_eq 𝒱₀ (c : Thread nD τ) none Set.univ) (Set.mem_univ _) () (O := oweSend c 0) (W := W) (R := 0) (m := 0) (T := ∅)
      (by rw [expect_bar])) $$ [Hc HO Ha]
  · isplitr; · iapply (known_inv m ρ K c (.inl ())); iexact HK
    isplitl [Hc]; · iexact Hc
    isplitl [HO]; · iexact HO
    isplitr; · iapply (mayWait_bar c 0); iapply (known_lev m ρ K); iexact HK
    iexact Ha
  iintro ⟨HO, Ha, -, Hp⟩
  ihave Hp := (Entails.of_eq (rest_bar m ρ c)) $$ Hp
  imod (Rounds.cell_close ER (Rd m ρ) (Set.mem_univ (K (c, .inl ()))) (fun h => h) (R := 0 + 1) (duties_later m ρ (barCell c))) $$ [Ha] with Hz
  · isplitr; · iapply (known_inv m ρ K c (.inl ())); iexact HK
    iexact Ha
  iapply Hk
  isplitl [HO]; · iexists _; iexact HO
  isplitl [Hz]; · iexact Hz
  iexact Hp

/-- Send `r`: the chunk for the peer goes into the peer's slot. -/
theorem step_send (c n : Dev nD) (r : Fin 15) (hn : n = peer c r) (i : ℕ) (hi : i = r.val)
    {src : Memref sig .tc .vmem S256x256 .bf16} (hsrc : src = chunkM (peer c r))
    {dst : Memref sig (Dev.tc n : Thread nD τ).2.kind .vmem S256x256 .bf16} (hdst : dst = slotM r.succ)
    {sS sR : DmaSem sig} (hS : sS = sendS r) (hR : sR = recvS r)
    {hsc : dst.view.ref.isScScratch = false} {h₁ : src.view.WordExact} {h₂ : dst.view.WordExact}
    {h₃ : (DmaTarget.remote (Dev.tc n : Thread nD τ) dst (.dma sS) hsc : DmaTarget nD τ sig .tc .vmem S256x256 .bf16).Typed .vmem (.dma sR)} :
    known m ρ K ⊢ iprop(Sends m ρ c i -∗ (Sends m ρ c (i + 1) -∗ WP c (k ⟨⟩) Q)
      -∗ WP c (.op (.enqueueDma src (.remote (Dev.tc n : Thread nD τ) dst (.dma sS) hsc) (.dma sR) h₁ h₂ h₃) k) Q) := by
  subst hn hsrc hdst hS hR hi
  unfold Sends debt
  rw [bigSep_finFrom_succ r.isLt, bigSep_finUpTo_succ r.isLt]
  iintro #HK ⟨⟨%W, HO⟩, ⟨⟨Ht, Hu, Hc, %f, Hf⟩, Hrest⟩, Hdone⟩ Hk
  unfold chunkPts slotPts
  iapply (Rounds.wp_send_pointsTo 𝒱₀ ER (Rd m ρ) (c : Thread nD τ) none (κ₁ := K (c, .inr (.inl r))) (κ₂ := K (peer c r, .inr (.inr r)))
    (r₁ := 0) (r₂ := 0) (d₁ := 0) (d₂ := 0) (c' := (peer c r : Thread nD τ)) (src := chunkM (peer c r)) (dst := slotM r.succ) (fd := f)
    (by rw [duties_send]; exact Finset.mem_singleton_self _) (by rw [duties_recv]; exact Finset.mem_singleton_self _)
    () () N (show (slotM r.succ).view.amount (.dma (recvS r)) = N from rfl) (amount_send m ρ c r 0) (amount_recv m ρ (peer c r) r 0) (oweSend c (r.val + 1)) (oweSend_succ c r) (W := W)
    (by rw [payload_send]; exact BI.Entails.refl _)
    (by
      rw [payload_recv]; unfold recvPay slotPts
      iintro H
      iexists ((slotM r.succ).view.write (Elt F) f ((chunkM (peer c r)).view.read (Elt F) (xs m ρ c)) Finset.univ)
      isplitr
      · ipureintro; exact (View.read_write_univ _ _).trans (by rw [peer_rev]; rfl)
      · iexact H)) $$ [HO Ht Hu Hc Hf]
  · isplitr; · iapply (known_inv m ρ K c (.inr (.inl r))); iexact HK
    isplitr; · iapply (known_inv m ρ K (peer c r) (.inr (.inr r))); iexact HK
    isplitl [Hc]; · iexact Hc
    isplitl [Hf]; · iexact Hf
    isplitl [HO]; · iexact HO
    isplitl [Ht]; · iexact Ht
    isplitr; · iapply (known_reached m ρ K c (.inr (.inl r))); iexact HK
    isplitl [Hu]; · iexact Hu
    iapply (known_reached m ρ K (peer c r) (.inr (.inr r))); iexact HK
  iintro ⟨Hcr, HO⟩
  iapply Hk
  isplitl [HO]; · iexists W; iexact HO
  isplitl [Hrest]; · iexact Hrest
  isplitl [Hcr]; · iexact Hcr
  iexact Hdone

/-- A copy of weights starts: rows `256 j …` into buffer `b`. -/
theorem step_fetch (c : Dev nD) (b : Fin 2) (j : Fin 16)
    {src : Memref sig .tc .hbm S256x2048 .f32} (hsrc : src = wsrcM j)
    {dst : Memref sig .tc .vmem S256x2048 .f32} (hdst : dst = wslotM b)
    {q : DmaSem sig} (hq : q = wS b)
    {h₁ : src.view.WordExact} {h₂ : dst.view.WordExact} {h₃ : (DmaTarget.here dst : DmaTarget nD τ sig .tc .vmem S256x2048 .f32).Typed .hbm (.dma q)} :
    WFree m ρ c b ⊢ iprop((WFly m ρ c b j -∗ WP c (k ⟨⟩) Q)
      -∗ WP c (.op (.enqueueDma src (.here dst) (.dma q) h₁ h₂ h₃) k) Q) := by
  subst hsrc hdst hq
  unfold WFree WFly wHalf
  iintro ⟨⟨%f, Hf⟩, Hv, Hw⟩ Hk
  ihave Hw := (pointsTo_split_subset (Finset.subset_univ (wsrcM j).view.set)).1 $$ Hw
  icases Hw with ⟨Hw, Hwr⟩
  unfold wslotPts
  iapply (Transfers.wp_dmaLocal EC 𝒱₀ (c : Thread nD τ) none (fs := wts m ρ c) (q := half b) (fd := f) () NW rfl NW_pos (Finset.Subset.refl _)) $$ [Hf Hv Hw]
  · isplitl [Hw]; · iexact Hw
    isplitl [Hf]; · iexact Hf
    iexact Hv
  iintro Hfl
  iapply Hk
  iexists f
  isplitl [Hfl]; · iexact Hfl
  iexact Hwr

/-- The same, over rows that have been read. -/
theorem step_refetch (c : Dev nD) (b : Fin 2) (j₀ j : Fin 16)
    {src : Memref sig .tc .hbm S256x2048 .f32} (hsrc : src = wsrcM j)
    {dst : Memref sig .tc .vmem S256x2048 .f32} (hdst : dst = wslotM b)
    {q : DmaSem sig} (hq : q = wS b)
    {h₁ : src.view.WordExact} {h₂ : dst.view.WordExact} {h₃ : (DmaTarget.here dst : DmaTarget nD τ sig .tc .vmem S256x2048 .f32).Typed .hbm (.dma q)} :
    WHave m ρ c b j₀ ⊢ iprop((WFly m ρ c b j -∗ WP c (k ⟨⟩) Q)
      -∗ WP c (.op (.enqueueDma src (.here dst) (.dma q) h₁ h₂ h₃) k) Q) :=
  (WHave_free m ρ c b j₀).trans (step_fetch m ρ c b j hsrc hdst hq)

/-- The copy into buffer `b` is waited for. -/
theorem step_fetched (c : Dev nD) (b : Fin 2) (j : Fin 16)
    {d : Ref sig .tc} (hd : d.dmaCredit S256x2048 .f32 = NW) {hk : (c : Thread nD τ).2 = .tc ∨ d.HasMemref S256x2048 .f32}
    {q : DmaSem sig} (hq : q = wS b) :
    WFly m ρ c b j ⊢ iprop(debt c 0 -∗ ((WHave m ρ c b j ∗ debt c 0) -∗ WP c (k ⟨⟩) Q)
      -∗ WP c (.op (.waitDma q d S256x2048 .f32 hk) k) Q) := by
  subst hq
  unfold WFly WHave debt wHalf
  iintro ⟨%fd, Hfl, Hwr⟩ ⟨%W, HO⟩ Hk
  iapply (Transfers.wp_waitLocalSized EC 𝒱₀ (c : Thread nD τ) none (N := NW) () hd) $$ [Hfl HO]
  · isplitl [Hfl]; · iexact Hfl
    iexact HO
  iintro ⟨⟨Hs, Hw⟩, Hv, HO⟩
  iapply Hk
  isplitr [HO]
  · isplitl [Hs]
    · iexists ((wslotM b).view.write (Elt F) fd (wVal m ρ c j) Finset.univ)
      isplitr [Hs]
      · ipureintro; exact View.read_write_univ _ _
      · iexact Hs
    isplitl [Hv]; · iexact Hv
    iapply (pointsTo_split_subset (Finset.subset_univ (wsrcM j).view.set)).2
    isplitl [Hw]; · iexact Hw
    iexact Hwr
  · iexists _; iexact HO

/-- The chunk of the device `r + 1` places before has come. -/
theorem step_recv (c : Dev nD) (r : Fin 15) (i : ℕ) (hi : i = r.val)
    {d : Ref sig .tc} (hd : d.dmaCredit S256x256 .bf16 = N) {hk : (c : Thread nD τ).2 = .tc ∨ d.HasMemref S256x256 .bf16}
    {q : DmaSem sig} (hq : q = recvS r) :
    known m ρ K ⊢ iprop(Recvs m ρ c i -∗ debt c 0 -∗ ((Recvs m ρ c (i + 1) ∗ debt c 0) -∗ WP c (k ⟨⟩) Q)
      -∗ WP c (.op (.waitDma q d S256x256 .bf16 hk) k) Q) := by
  subst hq hi
  unfold Recvs debt
  rw [bigSep_finFrom_succ r.isLt, bigSep_finUpTo_succ r.isLt]
  iintro #HK ⟨⟨⟨Hc, Ha⟩, Hrest⟩, Hdone⟩ ⟨%W, HO⟩ Hk
  iapply (Rounds.wp_wait_rest_token 𝒱₀ ER (Rd m ρ) (c : Thread nD τ) none (κ := K (c, .inr (.inr r))) (k' := N)
      (fun K' => (wpE_waitDma_eq 𝒱₀ (c : Thread nD τ) none Set.univ (hk := hk) K').trans (by rw [hd])) (Set.mem_univ _) () (O := 0) (W := W) (R := 0) (m := 0) (T := ∅)
      (by rw [Nat.zero_add, expect_recv])) $$ [Hc HO Ha]
  · isplitr; · iapply (known_inv m ρ K c (.inr (.inr r))); iexact HK
    isplitl [Hc]; · iexact Hc
    isplitl [HO]; · iexact HO
    isplitr; · rw [MayWait_zero]; iempintro
    iexact Ha
  iintro ⟨HO, Ha, -, Hp⟩
  ihave Hp := (Entails.of_eq (rest_recv m ρ c r)) $$ Hp
  imod (Rounds.cell_close ER (Rd m ρ) (Set.mem_univ (K (c, .inr (.inr r)))) (fun h => h) (R := 0 + 1) (duties_later m ρ (recvCell c r))) $$ [Ha] with Hz
  · isplitr; · iapply (known_inv m ρ K c (.inr (.inr r))); iexact HK
    iexact Ha
  iapply Hk
  isplitr [HO]
  · isplitl [Hrest]; · iexact Hrest
    isplitr [Hdone]
    · isplitl [Hz]; · iexact Hz
      iexact Hp
    iexact Hdone
  · iexists _; iexact HO

/-- Send `r` is waited for: the chunk is back. -/
theorem step_back (c : Dev nD) (r : Fin 15) (i : ℕ) (hi : i = r.val)
    {d : Ref sig .tc} (hd : d.dmaCredit S256x256 .bf16 = N) {hk : (c : Thread nD τ).2 = .tc ∨ d.HasMemref S256x256 .bf16}
    {q : DmaSem sig} (hq : q = sendS r) :
    known m ρ K ⊢ iprop(Backs m ρ c i -∗ debt c 0 -∗ ((Backs m ρ c (i + 1) ∗ debt c 0) -∗ WP c (k ⟨⟩) Q)
      -∗ WP c (.op (.waitDma q d S256x256 .bf16 hk) k) Q) := by
  subst hq hi
  unfold Backs debt
  rw [bigSep_finFrom_succ r.isLt, bigSep_finUpTo_succ r.isLt]
  iintro #HK ⟨⟨⟨Hc, Ha⟩, Hrest⟩, Hdone⟩ ⟨%W, HO⟩ Hk
  iapply (Rounds.wp_wait_rest_token 𝒱₀ ER (Rd m ρ) (c : Thread nD τ) none (κ := K (c, .inr (.inl r))) (k' := N)
      (fun K' => (wpE_waitDma_eq 𝒱₀ (c : Thread nD τ) none Set.univ (hk := hk) K').trans (by rw [hd])) (Set.mem_univ _) () (O := 0) (W := W) (R := 0) (m := 0) (T := ∅)
      (by rw [Nat.zero_add, expect_send])) $$ [Hc HO Ha]
  · isplitr; · iapply (known_inv m ρ K c (.inr (.inl r))); iexact HK
    isplitl [Hc]; · iexact Hc
    isplitl [HO]; · iexact HO
    isplitr; · rw [MayWait_zero]; iempintro
    iexact Ha
  iintro ⟨HO, Ha, -, Hp⟩
  ihave Hp := (Entails.of_eq (rest_send m ρ c r)) $$ Hp
  imod (Rounds.cell_close ER (Rd m ρ) (Set.mem_univ (K (c, .inr (.inl r)))) (fun h => h) (R := 0 + 1) (duties_later m ρ (sendCell c r))) $$ [Ha] with Hz
  · isplitr; · iapply (known_inv m ρ K c (.inr (.inl r))); iexact HK
    iexact Ha
  iapply Hk
  isplitr [HO]
  · isplitl [Hrest]; · iexact Hrest
    isplitr [Hdone]
    · isplitl [Hz]; · iexact Hz
      iexact Hp
    iexact Hdone
  · iexists _; iexact HO

end Steps

/-! ## The loads -/

/-- A slot's entries, as a part of the receiving buffer's; -/
theorem slot_set (s : Fin 16) : (slotM s).view.set = xbM.view.setOn (slotR s).set := by
  rw [Memref.set_view_squeeze]; exact View.set_slice _ _
/-- a half's, of the buffer for the weights; -/
theorem wslot_set (b : Fin 2) : (wslotM b).view.set = wbM.view.setOn (wslotR b).set := by
  rw [Memref.set_view_squeeze]; exact View.set_slice _ _
/-- a chunk's, of the sending buffer. -/
theorem chunk_set (j : Fin 16) : (chunkM j).view.set = xsM.view.setOn (chunkR j).set := View.set_slice _ _

section Loads

variable {α : Type} {Q : α → sProp (MT nD τ sig Unit (Elt F) ℕ UU ℕ)}

/-- Loading a filled slot reads the chunk that came. -/
theorem load_slot (c : Dev nD) (r : Fin 15) (n : ℕ) (hn : r.val < n)
    {off : Fin 3 → ℕ} {h : ∀ a, off a + S1x256x256.size a ≤ S16x256x256.size a} (hoff : off = ![r.succ.val, 0, 0])
    {hl : xbM.view.LoadsAt (Rect.unit (s := S16x256x256) off S1x256x256.size h).toLoadRect}
    {k : (S1x256x256.Idx → Elt F .bf16) → Prog (TpuEff nD τ sig (Elt F) Λ₀ .tc) α} :
    Recvs m ρ c n ⊢ iprop((∀ v, ⌜shapeCast S256x256 v squeezes_S1x256x256_S256x256.numel_eq = chunkVal m ρ (back c r.succ) c⌝
        -∗ Recvs m ρ c n -∗ WP c (k v) Q)
      -∗ WP c (.op (.load xbM (Rect.unit (s := S16x256x256) off S1x256x256.size h).toLoadRect hl) k) Q) := by
  subst hoff
  unfold Recvs
  rw [SparseCore.bigSep_erase' (mem_finUpTo.mpr hn)]
  iintro ⟨Hrest, ⟨Hz, Hp⟩, Hdone⟩ Hk
  unfold recvPay slotPts
  icases Hp with ⟨%f, %hf, Hf⟩
  iapply (wp_load 𝒱₀ (c : Thread nD τ) none Set.univ (m := xbM) (r := (slotR r.succ).toLoadRect) (S := (slotM r.succ).view.set)
    (by rw [slot_set])) $$ Hf
  iintro Hf
  iapply Hk $$ [] [Hrest Hz Hf Hdone]
  · ipureintro; rw [back_succ]; exact hf
  isplitl [Hrest]; · iexact Hrest
  isplitr [Hdone]
  · isplitl [Hz]; · iexact Hz
    iexists f
    isplitr; · ipureintro; exact hf
    iexact Hf
  iexact Hdone

/-- Loading a filled weight buffer reads its rows. -/
theorem load_wslot (c : Dev nD) (b : Fin 2) (j : Fin 16)
    {off : Fin 3 → ℕ} {h : ∀ a, off a + S1x256x2048.size a ≤ S2x256x2048.size a} (hoff : off = ![b.val, 0, 0])
    {hl : wbM.view.LoadsAt (Rect.unit (s := S2x256x2048) off S1x256x2048.size h).toLoadRect}
    {k : (S1x256x2048.Idx → Elt F .f32) → Prog (TpuEff nD τ sig (Elt F) Λ₀ .tc) α} :
    WHave m ρ c b j ⊢ iprop((∀ v, ⌜shapeCast S256x2048 v squeezes_S1x256x2048_S256x2048.numel_eq = wVal m ρ c j⌝
        -∗ WHave m ρ c b j -∗ WP c (k v) Q)
      -∗ WP c (.op (.load wbM (Rect.unit (s := S2x256x2048) off S1x256x2048.size h).toLoadRect hl) k) Q) := by
  subst hoff
  unfold WHave wslotPts
  iintro ⟨⟨%f, %hf, Hf⟩, Hrest⟩ Hk
  iapply (wp_load 𝒱₀ (c : Thread nD τ) none Set.univ (m := wbM) (r := (wslotR b).toLoadRect) (S := (wslotM b).view.set)
    (by rw [wslot_set])) $$ Hf
  iintro Hf
  iapply Hk $$ [] [Hf Hrest]
  · ipureintro; exact hf
  isplitl [Hf]
  · iexists f
    isplitr; · ipureintro; exact hf
    iexact Hf
  iexact Hrest

/-- Loading `c`'s own chunk of its sending buffer. -/
theorem load_own (c : Dev nD) {off : Fin 2 → ℕ} {h : ∀ a, off a + S256x256.size a ≤ S4096x256.size a} (hoff : off = ![256 * c.val, 0])
    {hl : xsM.view.LoadsAt (Rect.unit (s := S4096x256) off S256x256.size h).toLoadRect}
    {k : (S256x256.Idx → Elt F .bf16) → Prog (TpuEff nD τ sig (Elt F) Λ₀ .tc) α} :
    chunkPts m ρ c c ⊢ iprop((chunkPts m ρ c c -∗ WP c (k (chunkVal m ρ (back c 0) c)) Q)
      -∗ WP c (.op (.load xsM (Rect.unit (s := S4096x256) off S256x256.size h).toLoadRect hl) k) Q) := by
  subst hoff
  rw [back_zero]
  unfold chunkPts
  iintro Hf Hk
  iapply (wp_load 𝒱₀ (c : Thread nD τ) none Set.univ (m := xsM) (r := (chunkR c).toLoadRect) (S := (chunkM c).view.set)
    (by rw [chunk_set])) $$ Hf
  iintro Hf
  iapply Hk
  iexact Hf

end Loads

end Cert.KernelProof

end
-- ==== Proof.Parts1.lean ====
/-
The kernel's parts, one lemma each: first the greetings, the barrier and the sends.
-/
module

public import proofs.«01_k».proof.Proof.Steps

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- A part of the kernel, at the buffers and semaphores the launch gives it. -/
abbrev onArgs.{u} {β : Type u}
    (p : (a0 : Memref sig .tc .vmem S4096x256 .f32) → a0.IsWhole → (a1 : Memref sig .tc .hbm S4096x2048 .f32) → a1.IsWhole
      → (a2 : Memref sig .tc .vmem S256x2048 .f32) → a2.IsWhole → (a3 : Memref sig .tc .vmem S4096x256 .bf16) → a3.IsWhole
      → (a4 : Memref sig .tc .vmem S16x256x256 .bf16) → a4.IsWhole → (a5 : Memref sig .tc .vmem S2x256x2048 .f32) → a5.IsWhole
      → DmaSems sig S16 → DmaSems sig S16 → DmaSems sig S2 → β) : β :=
  p xM (Memref.isWhole_whole _) wM (Memref.isWhole_whole _) oM (Memref.isWhole_whole _) xsM (Memref.isWhole_whole _)
    xbM (Memref.isWhole_whole _) wbM (Memref.isWhole_whole _) cc0_scratch3 cc0_scratch4 cc0_scratch5

/-- The barrier's semaphore, as the body names it. -/
abbrev barA : Sems sig S_ := SemArray.scalar (sig.barrier 0 rfl)

/-- Two zero offsets. -/
theorem zero2 : (![0, 0] : Fin 2 → Nat) = fun _ => 0 := funext fun a => by fin_cases a <;> rfl

/-- Device `c`'s block of `x` in its staging buffer. -/
abbrev xPts (c : Dev nD) : sProp 𝕄 := ((c : Thread nD τ).loc cc0_stg0_0) ↦{fullShare} xstg m ρ c
/-- The sending buffer, holding `f`. -/
abbrev xsPts (c : Dev nD) (f : Buf (Elt F) ((c : Thread nD τ).loc cc0_scratch0)) : sProp 𝕄 := ((c : Thread nD τ).loc cc0_scratch0) ↦{fullShare} f

/-! ## Where the transfers go -/

/-- The chunk that send number `r` reads is the one for its peer. -/
theorem chunk_off (c : Dev nD) (r : Fin 15) (h) :
    xsM.slice (Rect.unit (s := S4096x256) (k0_off2 c (BitVec.ofNat 32 (1 + r.val))) S256x256.size h) (fun _ => rfl) = chunkM (peer c r) :=
  Memref.slice_unit_congr _ (k0_off2_eq c r) _ _ _ _
/-- The first copy of the weights reads the rows for the device's own chunk, -/
theorem wsrc_off1 (c : Dev nD) (h) :
    wM.slice (Rect.unit (s := S4096x2048) (k0_off1 c) S256x2048.size h) (fun _ => rfl) = wsrcM (back c 0) := by
  rw [back_zero]; exact Memref.slice_unit_congr _ (k0_off1_eq c) _ _ _ _
/-- and each later one those for the chunk of the device one place further back. -/
theorem wsrc_off3 (c : Dev nD) (r : Fin 15) (h) :
    wM.slice (Rect.unit (s := S4096x2048) (k0_off3 c (BitVec.ofNat 32 r.val)) S256x2048.size h) (fun _ => rfl) = wsrcM (back c r.succ) :=
  Memref.slice_unit_congr _ ((k0_off3_eq c r).trans (by
    have h : c.val + 15 - r.val = c.val + 16 - (r.val + 1) := by omega
    show _ = ![256 * ((c.val + 16 - (r.val + 1)) % 16), 0]
    rw [h])) _ _ _ _

/-! ## The sending buffer is filled -/

section Fill

variable {α : Type} {Q : α → sProp (MT nD τ sig Unit (Elt F) ℕ UU ℕ)}

/-- Loading the staged block of `x`. -/
theorem load_x (c : Dev nD) {h} {hl : xM.view.LoadsAt (Rect.unit (s := S4096x256) ![0, 0] S4096x256.size h).toLoadRect}
    {k : (S4096x256.Idx → Elt F .f32) → Prog (TpuEff nD τ sig (Elt F) Λ₀ .tc) α} :
    xPts m ρ c ⊢ iprop((xPts m ρ c -∗ WP c (k (xstg m ρ c)) Q)
      -∗ WP c (.op (.load xM (Rect.unit (s := S4096x256) ![0, 0] S4096x256.size h).toLoadRect hl) k) Q) := by
  have e : xM.view.readAt (Elt F) (Rect.unit (s := S4096x256) ![0, 0] S4096x256.size h).toLoadRect (xstg m ρ c) = xstg m ρ c :=
    Memref.readAt_unit_zero (Elt F) cc0_stg0_0 zero2 h (xstg m ρ c)
  iintro Hx Hk
  iapply (wp_load 𝒱₀ (c : Thread nD τ) none Set.univ (m := xM) (Finset.subset_univ _)) $$ Hx
  iintro Hx
  rw [e]
  iapply Hk; iexact Hx

/-- The sending buffer is stored whole, `w`, after a load of it that nobody reads. -/
theorem fill_xs (c : Dev nD) (f : Buf (Elt F) ((c : Thread nD τ).loc cc0_scratch0)) (w : (cc0_scratch0 : Ref sig .tc).ty.Contents (Elt F)) {h}
    {hl : xsM.view.LoadsAt (Rect.unit (s := S4096x256) ![0, 0] S4096x256.size h).toLoadRect} {hs hd}
    {k : PUnit → Prog (TpuEff nD τ sig (Elt F) Λ₀ .tc) α} :
    xsPts c f ⊢ iprop((xsPts c w -∗ WP c (k ⟨⟩) Q)
      -∗ WP c (.op (.load xsM (Rect.unit (s := S4096x256) ![0, 0] S4096x256.size h).toLoadRect hl)
        (fun _ => .op (.store xsM (Rect.unit (s := S4096x256) ![0, 0] S4096x256.size h) w Finset.univ hs hd) k)) Q) := by
  have e : (xsM.access (Rect.unit (s := S4096x256) ![0, 0] S4096x256.size h) : View sig .tc _ _ _).write (Elt F) f w Finset.univ = w :=
    Memref.write_access_unit_zero_univ (Elt F) cc0_scratch0 zero2 h f w
  iintro Hs Hk
  iapply (wp_load 𝒱₀ (c : Thread nD τ) none Set.univ (m := xsM) (Finset.subset_univ _)) $$ Hs
  iintro Hs
  iapply (wp_store 𝒱₀ (c : Thread nD τ) none Set.univ (m := xsM)
    (r := Rect.unit (s := S4096x256) ![0, 0] S4096x256.size h) (Mk := Finset.univ) (Finset.subset_univ _)) $$ Hs
  iintro Hs
  rw [e]
  iapply Hk; iexact Hs

end Fill

/-! ## Greetings -/

/-- The first rows of weights set off, the block of `x` is narrowed into the sending buffer, and two greetings go out. -/
theorem part1 (c : Dev nD) (Q : _ → sProp 𝕄) :
    known m ρ K ⊢ iprop(WFree m ρ c 0 -∗ xPts m ρ c -∗ (∃ f, xsPts c f) -∗ Greet c 0
      -∗ (∀ v2, WFly m ρ c 0 (back c 0) -∗ xPts m ρ c -∗ xsPts c (xs m ρ c) -∗ Greet c 2 -∗ Q ⟨c, v2, barA⟩)
      -∗ WP c (onArgs (k0_part1 (F := F))) Q) := by
  unfold onArgs
  rw [k0_part1_eq_skeleton]; unfold k0_part1_skel
  simp only [semSignalWord, Prog.lift, Prog.bind_op, Prog.bind_ret, Prog.pure_eq_ret, wp_deviceId]
  iintro #HK HW Hx ⟨%f, Hs⟩ H Hk
  iapply (step_fetch m ρ c 0 (back c 0) (wsrc_off1 c _) rfl rfl) $$ HW; iintro HW
  iapply (load_x m ρ c) $$ Hx; iintro Hx
  iapply (fill_xs c _ (xs m ρ c)) $$ Hs; iintro Hs
  iapply (step_greet m ρ K c _ 0 (Fin.ext (k0_dev1_eq c)) 0 rfl) $$ HK H; iintro H
  iapply (step_greet m ρ K c _ 1 (Fin.ext (k0_dev2_eq c)) 1 rfl) $$ HK H; iintro H
  iapply (step_ret c)
  iapply Hk $$ HW Hx Hs H

/-- Six greetings. -/
theorem part2 (c : Dev nD) (v2 : BitVec 32) (Q : PUnit → sProp 𝕄) :
    known m ρ K ⊢ iprop(Greet c 2 -∗ (Greet c 8 -∗ Q ⟨⟩) -∗ WP c ((onArgs (k0_part2 (F := F))) c v2 barA) Q) := by
  unfold onArgs
  rw [k0_part2_eq_skeleton]; unfold k0_part2_skel
  simp only [semSignalWord, Prog.lift, Prog.bind_op, Prog.bind_ret, Prog.pure_eq_ret]
  iintro #HK H Hk
  iapply (step_greet m ρ K c _ 2 (Fin.ext (k0_dev3_eq c)) 2 rfl) $$ HK H; iintro H
  iapply (step_greet m ρ K c _ 3 (Fin.ext (k0_dev4_eq c)) 3 rfl) $$ HK H; iintro H
  iapply (step_greet m ρ K c _ 4 (Fin.ext (k0_dev5_eq c)) 4 rfl) $$ HK H; iintro H
  iapply (step_greet m ρ K c _ 5 (Fin.ext (k0_dev6_eq c)) 5 rfl) $$ HK H; iintro H
  iapply (step_greet m ρ K c _ 6 (Fin.ext (k0_dev7_eq c)) 6 rfl) $$ HK H; iintro H
  iapply (step_greet m ρ K c _ 7 (Fin.ext (k0_dev8_eq c)) 7 rfl) $$ HK H; iintro H
  iapply (step_ret c)
  iapply Hk $$ H

/-- Six more. -/
theorem part3 (c : Dev nD) (v2 : BitVec 32) (Q : PUnit → sProp 𝕄) :
    known m ρ K ⊢ iprop(Greet c 8 -∗ (Greet c 14 -∗ Q ⟨⟩) -∗ WP c ((onArgs (k0_part3 (F := F))) c v2 barA) Q) := by
  unfold onArgs
  rw [k0_part3_eq_skeleton]; unfold k0_part3_skel
  simp only [semSignalWord, Prog.lift, Prog.bind_op, Prog.bind_ret, Prog.pure_eq_ret]
  iintro #HK H Hk
  iapply (step_greet m ρ K c _ 8 (Fin.ext (k0_dev9_eq c)) 8 rfl) $$ HK H; iintro H
  iapply (step_greet m ρ K c _ 9 (Fin.ext (k0_dev10_eq c)) 9 rfl) $$ HK H; iintro H
  iapply (step_greet m ρ K c _ 10 (Fin.ext (k0_dev11_eq c)) 10 rfl) $$ HK H; iintro H
  iapply (step_greet m ρ K c _ 11 (Fin.ext (k0_dev12_eq c)) 11 rfl) $$ HK H; iintro H
  iapply (step_greet m ρ K c _ 12 (Fin.ext (k0_dev13_eq c)) 12 rfl) $$ HK H; iintro H
  iapply (step_greet m ρ K c _ 13 (Fin.ext (k0_dev14_eq c)) 13 rfl) $$ HK H; iintro H
  iapply (step_ret c)
  iapply Hk $$ H

/-! ## The barrier and the sends -/

/-- What the sends need besides what the greetings bring: the duties and the chunks. -/
def Stock (c : Dev nD) : sProp 𝕄 :=
  bigSep Finset.univ fun r : Fin 15 => iprop(dutyTok ER (sendCell c r) 0 0 ∗ dutyTok ER (recvCell (peer c r) r) 0 0 ∗ chunkPts m ρ c (peer c r))

/-- With every peer's slot in hand the sends may start. -/
theorem sends_start (c : Dev nD) :
    iprop(Stock m ρ c ∗ debt c (oweSend c 0) ∗ bigSep Finset.univ fun r => barPay c r) ⊢ Sends m ρ c 0 := by
  have h1 (r : Fin 15) : iprop((dutyTok ER (sendCell c r) 0 0 ∗ dutyTok ER (recvCell (peer c r) r) 0 0 ∗ chunkPts m ρ c (peer c r)) ∗ barPay c r)
      ⊢ (iprop(dutyTok ER (sendCell c r) 0 0 ∗ dutyTok ER (recvCell (peer c r) r) 0 0 ∗ chunkPts m ρ c (peer c r)
        ∗ ∃ f, slotPts (peer c r) r.succ f) : sProp 𝕄) := by
    unfold barPay
    iintro ⟨⟨H1, H2, H3⟩, H4⟩
    isplitl [H1]; · iexact H1
    isplitl [H2]; · iexact H2
    isplitl [H3]; · iexact H3
    iexact H4
  have hm : (bigSep Finset.univ fun r : Fin 15 => iprop((dutyTok ER (sendCell c r) 0 0 ∗ dutyTok ER (recvCell (peer c r) r) 0 0
        ∗ chunkPts m ρ c (peer c r)) ∗ barPay c r) : sProp 𝕄) ⊢ bigSep Finset.univ fun r : Fin 15 => iprop(dutyTok ER (sendCell c r) 0 0
        ∗ dutyTok ER (recvCell (peer c r) r) 0 0 ∗ chunkPts m ρ c (peer c r) ∗ ∃ f, slotPts (peer c r) r.succ f) :=
    bigSep_mono fun r _ => h1 r
  unfold Stock Sends
  rw [bigSep_finFrom_zero, bigSep_finUpTo_zero]
  iintro ⟨Hst, HO, Hb⟩
  isplitl [HO]; · iexact HO
  isplitl
  · iapply hm
    iapply (Entails.of_eq (bigSep_sep' Finset.univ (fun r : Fin 15 => iprop(dutyTok ER (sendCell c r) 0 0
        ∗ dutyTok ER (recvCell (peer c r) r) 0 0 ∗ chunkPts m ρ c (peer c r))) (fun r => barPay c r)).symm)
    isplitl [Hst] <;> iassumption
  · iempintro

/-- The last greeting, the barrier, and two sends. -/
theorem part4 (c : Dev nD) (v2 : BitVec 32) (Q : BitVec 32 → sProp 𝕄) :
    known m ρ K ⊢ iprop(Greet c 14 -∗ cred (tallyAt (barCell c) () 15) -∗ atPos ER (barCell c) 0 ∅ 0 -∗ Stock m ρ c
      -∗ (∀ v, semVal (barCell c) 0 -∗ Sends m ρ c 2 -∗ Q v) -∗ WP c ((onArgs (k0_part4 (F := F))) c v2 barA) Q) := by
  unfold onArgs
  rw [k0_part4_eq_skeleton]; unfold k0_part4_skel
  simp only [semSignalWord, semWaitWord, Prog.lift, Prog.bind_op, Prog.bind_ret, Prog.pure_eq_ret]
  iintro #HK H Hc Ha Hst Hk
  iapply (step_greet m ρ K c _ 14 (Fin.ext (k0_dev15_eq c)) 14 rfl) $$ HK H; iintro H
  iapply (step_barrier m ρ K c) $$ HK H Hc Ha; iintro ⟨HO, Hz, Hb⟩
  ihave H := (sends_start m ρ c) $$ [Hst HO Hb]
  · isplitl [Hst]; · iexact Hst
    isplitl [HO] <;> iassumption
  iapply (step_send m ρ K c _ 0 (Fin.ext (k0_dev16_eq c)) 0 rfl (chunk_off c 0 _) rfl rfl rfl) $$ HK H; iintro H
  iapply (step_send m ρ K c _ 1 (Fin.ext (k0_dev17_eq c)) 1 rfl (chunk_off c 1 _) rfl rfl rfl) $$ HK H; iintro H
  iapply (step_ret c)
  iapply Hk $$ Hz H

/-- Sends three and four. -/
theorem part5 (c : Dev nD) (v2 v : BitVec 32) (Q : PUnit → sProp 𝕄) :
    known m ρ K ⊢ iprop(Sends m ρ c 2 -∗ (Sends m ρ c 4 -∗ Q ⟨⟩) -∗ WP c ((onArgs (k0_part5 (F := F))) c v2 v) Q) := by
  unfold onArgs
  rw [k0_part5_eq_skeleton]; unfold k0_part5_skel
  simp only [Prog.lift, Prog.bind_op, Prog.bind_ret, Prog.pure_eq_ret]
  iintro #HK H Hk
  iapply (step_send m ρ K c _ 2 (Fin.ext (k0_dev18_eq c)) 2 rfl (chunk_off c 2 _) rfl rfl rfl) $$ HK H; iintro H
  iapply (step_send m ρ K c _ 3 (Fin.ext (k0_dev19_eq c)) 3 rfl (chunk_off c 3 _) rfl rfl rfl) $$ HK H; iintro H
  iapply (step_ret c)
  iapply Hk $$ H

/-- Sends five to seven. -/
theorem part6 (c : Dev nD) (v2 : BitVec 32) (Q : BitVec 32 → sProp 𝕄) :
    known m ρ K ⊢ iprop(Sends m ρ c 4 -∗ (∀ v, Sends m ρ c 7 -∗ Q v) -∗ WP c ((onArgs (k0_part6 (F := F))) c v2) Q) := by
  unfold onArgs
  rw [k0_part6_eq_skeleton]; unfold k0_part6_skel
  simp only [Prog.lift, Prog.bind_op, Prog.bind_ret, Prog.pure_eq_ret]
  iintro #HK H Hk
  iapply (step_send m ρ K c _ 4 (Fin.ext (k0_dev20_eq c)) 4 rfl (chunk_off c 4 _) rfl rfl rfl) $$ HK H; iintro H
  iapply (step_send m ρ K c _ 5 (Fin.ext (k0_dev21_eq c)) 5 rfl (chunk_off c 5 _) rfl rfl rfl) $$ HK H; iintro H
  iapply (step_send m ρ K c _ 6 (Fin.ext (k0_dev22_eq c)) 6 rfl (chunk_off c 6 _) rfl rfl rfl) $$ HK H; iintro H
  iapply (step_ret c)
  iapply Hk $$ H

/-- Sends eight and nine. -/
theorem part7 (c : Dev nD) (v2 v : BitVec 32) (Q : PUnit → sProp 𝕄) :
    known m ρ K ⊢ iprop(Sends m ρ c 7 -∗ (Sends m ρ c 9 -∗ Q ⟨⟩) -∗ WP c ((onArgs (k0_part7 (F := F))) c v2 v) Q) := by
  unfold onArgs
  rw [k0_part7_eq_skeleton]; unfold k0_part7_skel
  simp only [Prog.lift, Prog.bind_op, Prog.bind_ret, Prog.pure_eq_ret]
  iintro #HK H Hk
  iapply (step_send m ρ K c _ 7 (Fin.ext (k0_dev23_eq c)) 7 rfl (chunk_off c 7 _) rfl rfl rfl) $$ HK H; iintro H
  iapply (step_send m ρ K c _ 8 (Fin.ext (k0_dev24_eq c)) 8 rfl (chunk_off c 8 _) rfl rfl rfl) $$ HK H; iintro H
  iapply (step_ret c)
  iapply Hk $$ H

/-- Sends ten to twelve. -/
theorem part8 (c : Dev nD) (v2 : BitVec 32) (Q : BitVec 32 → sProp 𝕄) :
    known m ρ K ⊢ iprop(Sends m ρ c 9 -∗ (∀ v, Sends m ρ c 12 -∗ Q v) -∗ WP c ((onArgs (k0_part8 (F := F))) c v2) Q) := by
  unfold onArgs
  rw [k0_part8_eq_skeleton]; unfold k0_part8_skel
  simp only [Prog.lift, Prog.bind_op, Prog.bind_ret, Prog.pure_eq_ret]
  iintro #HK H Hk
  iapply (step_send m ρ K c _ 9 (Fin.ext (k0_dev25_eq c)) 9 rfl (chunk_off c 9 _) rfl rfl rfl) $$ HK H; iintro H
  iapply (step_send m ρ K c _ 10 (Fin.ext (k0_dev26_eq c)) 10 rfl (chunk_off c 10 _) rfl rfl rfl) $$ HK H; iintro H
  iapply (step_send m ρ K c _ 11 (Fin.ext (k0_dev27_eq c)) 11 rfl (chunk_off c 11 _) rfl rfl rfl) $$ HK H; iintro H
  iapply (step_ret c)
  iapply Hk $$ H

/-- Sends thirteen and fourteen. -/
theorem part9 (c : Dev nD) (v2 v : BitVec 32) (Q : PUnit → sProp 𝕄) :
    known m ρ K ⊢ iprop(Sends m ρ c 12 -∗ (Sends m ρ c 14 -∗ Q ⟨⟩) -∗ WP c ((onArgs (k0_part9 (F := F))) c v2 v) Q) := by
  unfold onArgs
  rw [k0_part9_eq_skeleton]; unfold k0_part9_skel
  simp only [Prog.lift, Prog.bind_op, Prog.bind_ret, Prog.pure_eq_ret]
  iintro #HK H Hk
  iapply (step_send m ρ K c _ 12 (Fin.ext (k0_dev28_eq c)) 12 rfl (chunk_off c 12 _) rfl rfl rfl) $$ HK H; iintro H
  iapply (step_send m ρ K c _ 13 (Fin.ext (k0_dev29_eq c)) 13 rfl (chunk_off c 13 _) rfl rfl rfl) $$ HK H; iintro H
  iapply (step_ret c)
  iapply Hk $$ H

end Cert.KernelProof

end
-- ==== Proof.Parts2.lean ====
/-
The kernel's parts, continued: the last send, then for each device in turn the copy of its rows of weights, the wait for
its chunk, and one block of the product.
-/
module

public import proofs.«01_k».proof.Proof.Parts1

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The running sum -/

/-- One block of the product: a chunk times rows of weights, narrowed. -/
def mulF (x : FVec F S256x256 .bf16) (w : FVec F S256x2048 .f32) : FVec F S256x2048 .f32 :=
  matmul dot_S256x256_S256x2048_S256x2048_1_0_0_1_n_n none x (truncf .bf16 w bitsLt_bf16_f32) (constant S256x2048 .f32 0x00000000#32)

/-- The block that the device `s` places before `c` contributes. -/
def term (c : Dev nD) (s : Fin 16) : FVec F S256x2048 .f32 := mulF (chunkVal m ρ (back c s) c) (wVal m ρ c (back c s))

/-- The sum of the blocks `0 … n`. -/
def accF (c : Dev nD) : ℕ → FVec F S256x2048 .f32
  | 0 => addf (broadcast S256x2048 (Scalar.ofBits .f32 0x00000000#32)) (term m ρ c 0)
  | n + 1 => addf (accF c n) (term m ρ c (Fin.ofNat 16 (n + 1)))

/-- What `c` stores: the whole sum, cut off below at zero. -/
def outAt (c : Dev nD) : FVec F S256x2048 .f32 :=
  maximumf (accF m ρ c 15) (broadcast S256x2048 (Scalar.ofBits .f32 0x00000000#32))

/-- A product of what slot and weight buffer hold is the term of the sum, -/
theorem term_of {c : Dev nD} {s : Fin 16} {v : S1x256x256.Idx → Elt F .bf16} {w : S1x256x2048.Idx → Elt F .f32}
    (hv : shapeCast S256x256 v squeezes_S1x256x256_S256x256.numel_eq = chunkVal m ρ (back c s) c)
    (hw : shapeCast S256x2048 w squeezes_S1x256x2048_S256x2048.numel_eq = wVal m ρ c (back c s)) :
    mulF (shapeCast S256x256 v squeezes_S1x256x256_S256x256.numel_eq) (shapeCast S256x2048 w squeezes_S1x256x2048_S256x2048.numel_eq) = term m ρ c s := by
  rw [hv, hw]; rfl

/-- and adding it to the sum so far gives the next sum. -/
theorem acc_of (n : ℕ) (s : Fin 16) (hs : Fin.ofNat 16 (n + 1) = s) {c : Dev nD} {v : S1x256x256.Idx → Elt F .bf16} {w : S1x256x2048.Idx → Elt F .f32}
    (hv : shapeCast S256x256 v squeezes_S1x256x256_S256x256.numel_eq = chunkVal m ρ (back c s) c)
    (hw : shapeCast S256x2048 w squeezes_S1x256x2048_S256x2048.numel_eq = wVal m ρ c (back c s)) :
    k0_pay3 (accF m ρ c n) v w = accF m ρ c (n + 1) := by
  subst hs
  show addf (accF m ρ c n) (mulF _ _) = _
  rw [term_of m ρ hv hw]; rfl

/-- The credits of the sends made. -/
def Sent (c : Dev nD) : sProp 𝕄 := bigSep Finset.univ fun r : Fin 15 => cred (tallyAt (sendCell c r) () N)

/-- All sends made, nothing is owed. -/
theorem sends_end (c : Dev nD) : Sends m ρ c 15 ⊢ iprop(debt c 0 ∗ Sent c) := by
  unfold Sends Sent
  rw [oweSend_end, bigSep_finUpTo_self]
  iintro ⟨HO, -, H⟩
  isplitl [HO] <;> iassumption

/-! ## The parts -/

/-- The last send; the second rows of weights set off; the first block. -/
theorem part10 (c : Dev nD) (v2 : BitVec 32) (Q : FVec F S256x2048 .f32 → sProp 𝕄) :
    known m ρ K ⊢ iprop(Sends m ρ c 14 -∗ WFly m ρ c 0 (back c 0) -∗ WFree m ρ c 1 -∗ chunkPts m ρ c c
      -∗ (debt c 0 -∗ Sent c -∗ WHave m ρ c 0 (back c 0) -∗ WFly m ρ c 1 (back c 1) -∗ chunkPts m ρ c c -∗ Q (accF m ρ c 0))
      -∗ WP c ((onArgs (k0_part10 (F := F))) c v2) Q) := by
  unfold onArgs
  rw [k0_part10_eq_skeleton]; unfold k0_part10_skel
  simp only [Prog.lift, Prog.bind_op, Prog.bind_ret, Prog.pure_eq_ret]
  iintro #HK H H0 H1 Hx Hk
  iapply (step_send m ρ K c _ 14 (Fin.ext (k0_dev30_eq c)) 14 rfl (chunk_off c 14 _) rfl rfl rfl) $$ HK H; iintro H
  ihave H := (sends_end m ρ c) $$ H
  icases H with ⟨HO, H⟩
  iapply (step_fetch m ρ c 1 (back c 1) (wsrc_off3 c 0 _) rfl rfl) $$ H1; iintro H1
  iapply (step_fetched m ρ c 0 (back c 0) rfl rfl) $$ H0 HO; iintro ⟨H0, HO⟩
  iapply (load_own m ρ c (k0_off5_eq c)) $$ Hx; iintro Hx
  iapply (load_wslot m ρ c 0 (back c 0) rfl) $$ H0; iintro %w %hw H0
  iapply (step_ret c)
  have e : k0_pay2 (chunkVal m ρ (back c 0) c) w = accF m ρ c 0 := by
    show addf _ (mulF _ (shapeCast S256x2048 w squeezes_S1x256x2048_S256x2048.numel_eq)) = _
    rw [hw]; rfl
  rw [e]
  iapply Hk $$ HO H H0 H1 Hx

/-- What a part of the loop does: it takes the weight buffers from `A`, `B` to `A'`, `B'` and the receives from `n` to `n'`, owes nothing
before and after, and returns one of the values `out`. -/
def Turn {β γ : Type} (c : Dev nD) (p : Prog (TpuEff nD τ sig (Elt F) Λ₀ .tc) β) (n : ℕ) (A B : sProp 𝕄) (n' : ℕ) (A' B' : sProp 𝕄) (out : γ → β) : Prop :=
  ∀ Q : β → sProp 𝕄, known m ρ K ⊢ iprop(debt c 0 -∗ Recvs m ρ c n -∗ A -∗ B
    -∗ (∀ z, debt c 0 -∗ Recvs m ρ c n' -∗ A' -∗ B' -∗ Q (out z)) -∗ WP c p Q)

/-- The third rows set off; the second have come, and the chunk for them. -/
theorem part11 (c : Dev nD) (v2 : BitVec 32) :
    Turn m ρ K c ((onArgs (k0_part11 (F := F))) c v2) 0 (WHave m ρ c 0 (back c 0)) (WFly m ρ c 1 (back c 1))
      1 (WFly m ρ c 0 (back c 2)) (WHave m ρ c 1 (back c 1)) fun _ : Unit => ⟨⟩ := by
  intro Q
  unfold onArgs
  rw [k0_part11_eq_skeleton]; unfold k0_part11_skel
  simp only [Prog.lift, Prog.bind_op, Prog.bind_ret, Prog.pure_eq_ret]
  iintro #HK HO HR H0 H1 Hk
  iapply (step_refetch m ρ c 0 _ (back c 2) (wsrc_off3 c 1 _) rfl rfl) $$ H0; iintro H0
  iapply (step_fetched m ρ c 1 (back c 1) rfl rfl) $$ H1 HO; iintro ⟨H1, HO⟩
  iapply (step_recv m ρ K c 0 0 rfl rfl rfl) $$ HK HR HO; iintro ⟨HR, HO⟩
  iapply (step_ret c)
  iapply Hk $$ %() HO HR H0 H1

/-- Block 1; the fourth rows set off, the third have come. -/
theorem part12 (c : Dev nD) (v2 : BitVec 32) :
    Turn m ρ K c ((onArgs (k0_part12 (F := F))) c v2 (accF m ρ c 0)) 1 (WFly m ρ c 0 (back c 2)) (WHave m ρ c 1 (back c 1))
      1 (WHave m ρ c 0 (back c 2)) (WFly m ρ c 1 (back c 3)) fun _ : Unit => accF m ρ c 1 := by
  intro Q
  unfold onArgs
  rw [k0_part12_eq_skeleton]; unfold k0_part12_skel
  simp only [Prog.lift, Prog.bind_op, Prog.bind_ret, Prog.pure_eq_ret]
  iintro #HK HO HR H0 H1 Hk
  iapply (load_slot m ρ c 0 1 (by decide) rfl) $$ HR; iintro %v %hv HR
  iapply (load_wslot m ρ c 1 (back c 1) rfl) $$ H1; iintro %w %hw H1
  iapply (step_refetch m ρ c 1 _ (back c 3) (wsrc_off3 c 2 _) rfl rfl) $$ H1; iintro H1
  iapply (step_fetched m ρ c 0 (back c 2) rfl rfl) $$ H0 HO; iintro ⟨H0, HO⟩
  iapply (step_ret c)
  have e : k0_pay3 (accF m ρ c 0) v w = accF m ρ c 1 := acc_of m ρ 0 1 rfl hv hw
  rw [e]
  iapply Hk $$ %() HO HR H0 H1

/-- The second chunk has come; block 2. -/
theorem part13 (c : Dev nD) (v2 : BitVec 32) :
    Turn m ρ K c ((onArgs (k0_part13 (F := F))) c v2 (accF m ρ c 1)) 1 (WHave m ρ c 0 (back c 2)) (WFly m ρ c 1 (back c 3))
      2 (WFly m ρ c 0 (back c 4)) (WFly m ρ c 1 (back c 3)) fun _ : Unit => accF m ρ c 2 := by
  intro Q
  unfold onArgs
  rw [k0_part13_eq_skeleton]; unfold k0_part13_skel
  simp only [Prog.lift, Prog.bind_op, Prog.bind_ret, Prog.pure_eq_ret]
  iintro #HK HO HR H0 H1 Hk
  iapply (step_recv m ρ K c 1 1 rfl rfl rfl) $$ HK HR HO; iintro ⟨HR, HO⟩
  iapply (load_slot m ρ c 1 2 (by decide) rfl) $$ HR; iintro %v %hv HR
  iapply (load_wslot m ρ c 0 (back c 2) rfl) $$ H0; iintro %w %hw H0
  iapply (step_refetch m ρ c 0 _ (back c 4) (wsrc_off3 c 3 _) rfl rfl) $$ H0; iintro H0
  iapply (step_ret c)
  have e : k0_pay4 (accF m ρ c 1) v w = accF m ρ c 2 := acc_of m ρ 1 2 rfl hv hw
  rw [e]
  iapply Hk $$ %() HO HR H0 H1

/-- Block 3, with its rows and its chunk. -/
theorem part14 (c : Dev nD) (v2 : BitVec 32) :
    Turn m ρ K c ((onArgs (k0_part14 (F := F))) c v2 (accF m ρ c 2)) 2 (WFly m ρ c 0 (back c 4)) (WFly m ρ c 1 (back c 3))
      3 (WFly m ρ c 0 (back c 4)) (WFly m ρ c 1 (back c 5)) fun z : BitVec 32 => ⟨accF m ρ c 3, z⟩ := by
  intro Q
  unfold onArgs
  rw [k0_part14_eq_skeleton]; unfold k0_part14_skel
  simp only [Prog.lift, Prog.bind_op, Prog.bind_ret, Prog.pure_eq_ret]
  iintro #HK HO HR H0 H1 Hk
  iapply (step_fetched m ρ c 1 (back c 3) rfl rfl) $$ H1 HO; iintro ⟨H1, HO⟩
  iapply (step_recv m ρ K c 2 2 rfl rfl rfl) $$ HK HR HO; iintro ⟨HR, HO⟩
  iapply (load_slot m ρ c 2 3 (by decide) rfl) $$ HR; iintro %v %hv HR
  iapply (load_wslot m ρ c 1 (back c 3) rfl) $$ H1; iintro %w %hw H1
  iapply (step_refetch m ρ c 1 _ (back c 5) (wsrc_off3 c 4 _) rfl rfl) $$ H1; iintro H1
  iapply (step_ret c)
  have e : k0_pay5 (accF m ρ c 2) v w = accF m ρ c 3 := acc_of m ρ 2 3 rfl hv hw
  rw [e]
  iapply Hk $$ HO HR H0 H1

/-- Block 4, with its rows and its chunk. -/
theorem part15 (c : Dev nD) (v2 v385 : BitVec 32) :
    Turn m ρ K c ((onArgs (k0_part15 (F := F))) c v2 (accF m ρ c 3) v385) 3 (WFly m ρ c 0 (back c 4)) (WFly m ρ c 1 (back c 5))
      4 (WHave m ρ c 0 (back c 4)) (WFly m ρ c 1 (back c 5)) fun z : BitVec 32 => ⟨accF m ρ c 4, z⟩ := by
  intro Q
  unfold onArgs
  rw [k0_part15_eq_skeleton]; unfold k0_part15_skel
  simp only [Prog.lift, Prog.bind_op, Prog.bind_ret, Prog.pure_eq_ret]
  iintro #HK HO HR H0 H1 Hk
  iapply (step_fetched m ρ c 0 (back c 4) rfl rfl) $$ H0 HO; iintro ⟨H0, HO⟩
  iapply (step_recv m ρ K c 3 3 rfl rfl rfl) $$ HK HR HO; iintro ⟨HR, HO⟩
  iapply (load_slot m ρ c 3 4 (by decide) rfl) $$ HR; iintro %v %hv HR
  iapply (load_wslot m ρ c 0 (back c 4) rfl) $$ H0; iintro %w %hw H0
  iapply (step_ret c)
  have e : k0_pay6 (accF m ρ c 3) v w = accF m ρ c 4 := acc_of m ρ 3 4 rfl hv hw
  rw [e]
  iapply Hk $$ HO HR H0 H1

/-- Block 5, after setting off the rows for block 6. -/
theorem part16 (c : Dev nD) (v2 v418 : BitVec 32) :
    Turn m ρ K c ((onArgs (k0_part16 (F := F))) c v2 (accF m ρ c 4) v418) 4 (WHave m ρ c 0 (back c 4)) (WFly m ρ c 1 (back c 5))
      5 (WFly m ρ c 0 (back c 6)) (WHave m ρ c 1 (back c 5)) fun z : BitVec 32 × BitVec 32 => ⟨accF m ρ c 5, z.1, z.2⟩ := by
  intro Q
  unfold onArgs
  rw [k0_part16_eq_skeleton]; unfold k0_part16_skel
  simp only [Prog.lift, Prog.bind_op, Prog.bind_ret, Prog.pure_eq_ret]
  iintro #HK HO HR H0 H1 Hk
  iapply (step_refetch m ρ c 0 _ (back c 6) (wsrc_off3 c 5 _) rfl rfl) $$ H0; iintro H0
  iapply (step_fetched m ρ c 1 (back c 5) rfl rfl) $$ H1 HO; iintro ⟨H1, HO⟩
  iapply (step_recv m ρ K c 4 4 rfl rfl rfl) $$ HK HR HO; iintro ⟨HR, HO⟩
  iapply (load_slot m ρ c 4 5 (by decide) rfl) $$ HR; iintro %v %hv HR
  iapply (load_wslot m ρ c 1 (back c 5) rfl) $$ H1; iintro %w %hw H1
  iapply (step_ret c)
  have e : k0_pay7 (accF m ρ c 4) v w = accF m ρ c 5 := acc_of m ρ 4 5 rfl hv hw
  rw [e]
  iapply Hk $$ %(_, _) HO HR H0 H1

/-- The rows for block 7 set off; those for block 6 and their chunk have come, and the chunk is read. -/
theorem part17 (c : Dev nD) (v2 v450 k : BitVec 32) :
    Turn m ρ K c ((onArgs (k0_part17 (F := F))) c v2 v450 k) 5 (WFly m ρ c 0 (back c 6)) (WHave m ρ c 1 (back c 5))
      6 (WHave m ρ c 0 (back c 6)) (WFly m ρ c 1 (back c 7)) fun _ : Unit => chunkVal m ρ (back c 6) c := by
  intro Q
  unfold onArgs
  rw [k0_part17_eq_skeleton]; unfold k0_part17_skel
  simp only [Prog.lift, Prog.bind_op, Prog.bind_ret, Prog.pure_eq_ret]
  iintro #HK HO HR H0 H1 Hk
  iapply (step_refetch m ρ c 1 _ (back c 7) (wsrc_off3 c 6 _) rfl rfl) $$ H1; iintro H1
  iapply (step_fetched m ρ c 0 (back c 6) rfl rfl) $$ H0 HO; iintro ⟨H0, HO⟩
  iapply (step_recv m ρ K c 5 5 rfl rfl rfl) $$ HK HR HO; iintro ⟨HR, HO⟩
  iapply (load_slot m ρ c 5 6 (by decide) rfl) $$ HR; iintro %v %hv HR
  iapply (step_ret c)
  have e : k0_pay8 v = chunkVal m ρ (back c 6) c := hv
  rw [e]
  iapply Hk $$ %() HO HR H0 H1

/-- Block 6; the rows for block 8 set off, those for block 7 have come. -/
theorem part18 (c : Dev nD) (v2 : BitVec 32) :
    Turn m ρ K c ((onArgs (k0_part18 (F := F))) c v2 (accF m ρ c 5) (chunkVal m ρ (back c 6) c)) 6 (WHave m ρ c 0 (back c 6)) (WFly m ρ c 1 (back c 7))
      6 (WFly m ρ c 0 (back c 8)) (WHave m ρ c 1 (back c 7)) fun _ : Unit => accF m ρ c 6 := by
  intro Q
  unfold onArgs
  rw [k0_part18_eq_skeleton]; unfold k0_part18_skel
  simp only [Prog.lift, Prog.bind_op, Prog.bind_ret, Prog.pure_eq_ret]
  iintro #HK HO HR H0 H1 Hk
  iapply (load_wslot m ρ c 0 (back c 6) rfl) $$ H0; iintro %w %hw H0
  iapply (step_refetch m ρ c 0 _ (back c 8) (wsrc_off3 c 7 _) rfl rfl) $$ H0; iintro H0
  iapply (step_fetched m ρ c 1 (back c 7) rfl rfl) $$ H1 HO; iintro ⟨H1, HO⟩
  iapply (step_ret c)
  have e : k0_pay9 (accF m ρ c 5) (chunkVal m ρ (back c 6) c) w = accF m ρ c 6 := by
    show addf _ (mulF _ (shapeCast S256x2048 w squeezes_S1x256x2048_S256x2048.numel_eq)) = _
    rw [hw]; rfl
  rw [e]
  iapply Hk $$ %() HO HR H0 H1

/-- Block 7; the rows for block 9 set off, those for block 8 have come. -/
theorem part19 (c : Dev nD) (v2 : BitVec 32) :
    Turn m ρ K c ((onArgs (k0_part19 (F := F))) c v2 (accF m ρ c 6)) 6 (WFly m ρ c 0 (back c 8)) (WHave m ρ c 1 (back c 7))
      7 (WHave m ρ c 0 (back c 8)) (WFly m ρ c 1 (back c 9)) fun _ : Unit => accF m ρ c 7 := by
  intro Q
  unfold onArgs
  rw [k0_part19_eq_skeleton]; unfold k0_part19_skel
  simp only [Prog.lift, Prog.bind_op, Prog.bind_ret, Prog.pure_eq_ret]
  iintro #HK HO HR H0 H1 Hk
  iapply (step_recv m ρ K c 6 6 rfl rfl rfl) $$ HK HR HO; iintro ⟨HR, HO⟩
  iapply (load_slot m ρ c 6 7 (by decide) rfl) $$ HR; iintro %v %hv HR
  iapply (load_wslot m ρ c 1 (back c 7) rfl) $$ H1; iintro %w %hw H1
  iapply (step_refetch m ρ c 1 _ (back c 9) (wsrc_off3 c 8 _) rfl rfl) $$ H1; iintro H1
  iapply (step_fetched m ρ c 0 (back c 8) rfl rfl) $$ H0 HO; iintro ⟨H0, HO⟩
  iapply (step_ret c)
  have e : k0_pay10 (accF m ρ c 6) v w = accF m ρ c 7 := acc_of m ρ 6 7 rfl hv hw
  rw [e]
  iapply Hk $$ %() HO HR H0 H1

/-- The chunk for block 8 has come; block 8. -/
theorem part20 (c : Dev nD) (v2 : BitVec 32) :
    Turn m ρ K c ((onArgs (k0_part20 (F := F))) c v2 (accF m ρ c 7)) 7 (WHave m ρ c 0 (back c 8)) (WFly m ρ c 1 (back c 9))
      8 (WFly m ρ c 0 (back c 10)) (WFly m ρ c 1 (back c 9)) fun _ : Unit => accF m ρ c 8 := by
  intro Q
  unfold onArgs
  rw [k0_part20_eq_skeleton]; unfold k0_part20_skel
  simp only [Prog.lift, Prog.bind_op, Prog.bind_ret, Prog.pure_eq_ret]
  iintro #HK HO HR H0 H1 Hk
  iapply (step_recv m ρ K c 7 7 rfl rfl rfl) $$ HK HR HO; iintro ⟨HR, HO⟩
  iapply (load_slot m ρ c 7 8 (by decide) rfl) $$ HR; iintro %v %hv HR
  iapply (load_wslot m ρ c 0 (back c 8) rfl) $$ H0; iintro %w %hw H0
  iapply (step_refetch m ρ c 0 _ (back c 10) (wsrc_off3 c 9 _) rfl rfl) $$ H0; iintro H0
  iapply (step_ret c)
  have e : k0_pay11 (accF m ρ c 7) v w = accF m ρ c 8 := acc_of m ρ 7 8 rfl hv hw
  rw [e]
  iapply Hk $$ %() HO HR H0 H1

/-- Block 9, with its rows and its chunk. -/
theorem part21 (c : Dev nD) (v2 : BitVec 32) :
    Turn m ρ K c ((onArgs (k0_part21 (F := F))) c v2 (accF m ρ c 8)) 8 (WFly m ρ c 0 (back c 10)) (WFly m ρ c 1 (back c 9))
      9 (WFly m ρ c 0 (back c 10)) (WHave m ρ c 1 (back c 9)) fun z : BitVec 32 => ⟨accF m ρ c 9, z⟩ := by
  intro Q
  unfold onArgs
  rw [k0_part21_eq_skeleton]; unfold k0_part21_skel
  simp only [Prog.lift, Prog.bind_op, Prog.bind_ret, Prog.pure_eq_ret]
  iintro #HK HO HR H0 H1 Hk
  iapply (step_fetched m ρ c 1 (back c 9) rfl rfl) $$ H1 HO; iintro ⟨H1, HO⟩
  iapply (step_recv m ρ K c 8 8 rfl rfl rfl) $$ HK HR HO; iintro ⟨HR, HO⟩
  iapply (load_slot m ρ c 8 9 (by decide) rfl) $$ HR; iintro %v %hv HR
  iapply (load_wslot m ρ c 1 (back c 9) rfl) $$ H1; iintro %w %hw H1
  iapply (step_ret c)
  have e : k0_pay12 (accF m ρ c 8) v w = accF m ρ c 9 := acc_of m ρ 8 9 rfl hv hw
  rw [e]
  iapply Hk $$ HO HR H0 H1

/-- Block 10, after setting off the rows for block 11. -/
theorem part22 (c : Dev nD) (v2 v583 : BitVec 32) :
    Turn m ρ K c ((onArgs (k0_part22 (F := F))) c v2 (accF m ρ c 9) v583) 9 (WFly m ρ c 0 (back c 10)) (WHave m ρ c 1 (back c 9))
      10 (WHave m ρ c 0 (back c 10)) (WFly m ρ c 1 (back c 11)) fun z : BitVec 32 × BitVec 32 => ⟨accF m ρ c 10, z.1, z.2⟩ := by
  intro Q
  unfold onArgs
  rw [k0_part22_eq_skeleton]; unfold k0_part22_skel
  simp only [Prog.lift, Prog.bind_op, Prog.bind_ret, Prog.pure_eq_ret]
  iintro #HK HO HR H0 H1 Hk
  iapply (step_refetch m ρ c 1 _ (back c 11) (wsrc_off3 c 10 _) rfl rfl) $$ H1; iintro H1
  iapply (step_fetched m ρ c 0 (back c 10) rfl rfl) $$ H0 HO; iintro ⟨H0, HO⟩
  iapply (step_recv m ρ K c 9 9 rfl rfl rfl) $$ HK HR HO; iintro ⟨HR, HO⟩
  iapply (load_slot m ρ c 9 10 (by decide) rfl) $$ HR; iintro %v %hv HR
  iapply (load_wslot m ρ c 0 (back c 10) rfl) $$ H0; iintro %w %hw H0
  iapply (step_ret c)
  have e : k0_pay13 (accF m ρ c 9) v w = accF m ρ c 10 := acc_of m ρ 9 10 rfl hv hw
  rw [e]
  iapply Hk $$ %(_, _) HO HR H0 H1

/-- Block 11 alone, not yet added, after setting off the rows for block 12. -/
theorem part23 (c : Dev nD) (v2 v616 v618 : BitVec 32) :
    Turn m ρ K c ((onArgs (k0_part23 (F := F))) c v2 v616 v618) 10 (WHave m ρ c 0 (back c 10)) (WFly m ρ c 1 (back c 11))
      11 (WFly m ρ c 0 (back c 12)) (WHave m ρ c 1 (back c 11)) fun _ : Unit => term m ρ c 11 := by
  intro Q
  unfold onArgs
  rw [k0_part23_eq_skeleton]; unfold k0_part23_skel
  simp only [Prog.lift, Prog.bind_op, Prog.bind_ret, Prog.pure_eq_ret]
  iintro #HK HO HR H0 H1 Hk
  iapply (step_refetch m ρ c 0 _ (back c 12) (wsrc_off3 c 11 _) rfl rfl) $$ H0; iintro H0
  iapply (step_fetched m ρ c 1 (back c 11) rfl rfl) $$ H1 HO; iintro ⟨H1, HO⟩
  iapply (step_recv m ρ K c 10 10 rfl rfl rfl) $$ HK HR HO; iintro ⟨HR, HO⟩
  iapply (load_slot m ρ c 10 11 (by decide) rfl) $$ HR; iintro %v %hv HR
  iapply (load_wslot m ρ c 1 (back c 11) rfl) $$ H1; iintro %w %hw H1
  iapply (step_ret c)
  have e : k0_pay14 v w = term m ρ c 11 := term_of m ρ hv hw
  rw [e]
  iapply Hk $$ %() HO HR H0 H1

/-- Block 11 added; the rows for block 13 set off, those for block 12 and their chunk have come. -/
theorem part24 (c : Dev nD) (v2 : BitVec 32) :
    Turn m ρ K c ((onArgs (k0_part24 (F := F))) c v2 (accF m ρ c 10) (term m ρ c 11)) 11 (WFly m ρ c 0 (back c 12)) (WHave m ρ c 1 (back c 11))
      12 (WHave m ρ c 0 (back c 12)) (WFly m ρ c 1 (back c 13)) fun _ : Unit => accF m ρ c 11 := by
  intro Q
  unfold onArgs
  rw [k0_part24_eq_skeleton]; unfold k0_part24_skel
  simp only [Prog.lift, Prog.bind_op, Prog.bind_ret, Prog.pure_eq_ret]
  iintro #HK HO HR H0 H1 Hk
  iapply (step_refetch m ρ c 1 _ (back c 13) (wsrc_off3 c 12 _) rfl rfl) $$ H1; iintro H1
  iapply (step_fetched m ρ c 0 (back c 12) rfl rfl) $$ H0 HO; iintro ⟨H0, HO⟩
  iapply (step_recv m ρ K c 11 11 rfl rfl rfl) $$ HK HR HO; iintro ⟨HR, HO⟩
  iapply (step_ret c)
  have e : k0_pay15 (accF m ρ c 10) (term m ρ c 11) = accF m ρ c 11 := rfl
  rw [e]
  iapply Hk $$ %() HO HR H0 H1

/-- Block 12; the rows for block 14 set off, those for block 13 have come. -/
theorem part25 (c : Dev nD) (v2 : BitVec 32) :
    Turn m ρ K c ((onArgs (k0_part25 (F := F))) c v2 (accF m ρ c 11)) 12 (WHave m ρ c 0 (back c 12)) (WFly m ρ c 1 (back c 13))
      12 (WFly m ρ c 0 (back c 14)) (WHave m ρ c 1 (back c 13)) fun _ : Unit => accF m ρ c 12 := by
  intro Q
  unfold onArgs
  rw [k0_part25_eq_skeleton]; unfold k0_part25_skel
  simp only [Prog.lift, Prog.bind_op, Prog.bind_ret, Prog.pure_eq_ret]
  iintro #HK HO HR H0 H1 Hk
  iapply (load_slot m ρ c 11 12 (by decide) rfl) $$ HR; iintro %v %hv HR
  iapply (load_wslot m ρ c 0 (back c 12) rfl) $$ H0; iintro %w %hw H0
  iapply (step_refetch m ρ c 0 _ (back c 14) (wsrc_off3 c 13 _) rfl rfl) $$ H0; iintro H0
  iapply (step_fetched m ρ c 1 (back c 13) rfl rfl) $$ H1 HO; iintro ⟨H1, HO⟩
  iapply (step_ret c)
  have e : k0_pay16 (accF m ρ c 11) v w = accF m ρ c 12 := acc_of m ρ 11 12 rfl hv hw
  rw [e]
  iapply Hk $$ %() HO HR H0 H1

/-- The chunk for block 13 has come; block 13, and the last rows set off. -/
theorem part26 (c : Dev nD) (v2 : BitVec 32) :
    Turn m ρ K c ((onArgs (k0_part26 (F := F))) c v2 (accF m ρ c 12)) 12 (WFly m ρ c 0 (back c 14)) (WHave m ρ c 1 (back c 13))
      13 (WFly m ρ c 0 (back c 14)) (WFly m ρ c 1 (back c 15)) fun _ : Unit => accF m ρ c 13 := by
  intro Q
  unfold onArgs
  rw [k0_part26_eq_skeleton]; unfold k0_part26_skel
  simp only [Prog.lift, Prog.bind_op, Prog.bind_ret, Prog.pure_eq_ret]
  iintro #HK HO HR H0 H1 Hk
  iapply (step_recv m ρ K c 12 12 rfl rfl rfl) $$ HK HR HO; iintro ⟨HR, HO⟩
  iapply (load_slot m ρ c 12 13 (by decide) rfl) $$ HR; iintro %v %hv HR
  iapply (load_wslot m ρ c 1 (back c 13) rfl) $$ H1; iintro %w %hw H1
  iapply (step_refetch m ρ c 1 _ (back c 15) (wsrc_off3 c 14 _) rfl rfl) $$ H1; iintro H1
  iapply (step_ret c)
  have e : k0_pay17 (accF m ρ c 12) v w = accF m ρ c 13 := acc_of m ρ 12 13 rfl hv hw
  rw [e]
  iapply Hk $$ %() HO HR H0 H1

/-- Block 14, and the last rows have come. -/
theorem part27 (c : Dev nD) (v2 : BitVec 32) :
    Turn m ρ K c ((onArgs (k0_part27 (F := F))) c v2 (accF m ρ c 13)) 13 (WFly m ρ c 0 (back c 14)) (WFly m ρ c 1 (back c 15))
      14 (WHave m ρ c 0 (back c 14)) (WHave m ρ c 1 (back c 15)) fun _ : Unit => accF m ρ c 14 := by
  intro Q
  unfold onArgs
  rw [k0_part27_eq_skeleton]; unfold k0_part27_skel
  simp only [Prog.lift, Prog.bind_op, Prog.bind_ret, Prog.pure_eq_ret]
  iintro #HK HO HR H0 H1 Hk
  iapply (step_fetched m ρ c 0 (back c 14) rfl rfl) $$ H0 HO; iintro ⟨H0, HO⟩
  iapply (step_recv m ρ K c 13 13 rfl rfl rfl) $$ HK HR HO; iintro ⟨HR, HO⟩
  iapply (load_slot m ρ c 13 14 (by decide) rfl) $$ HR; iintro %v %hv HR
  iapply (load_wslot m ρ c 0 (back c 14) rfl) $$ H0; iintro %w %hw H0
  iapply (step_fetched m ρ c 1 (back c 15) rfl rfl) $$ H1 HO; iintro ⟨H1, HO⟩
  iapply (step_ret c)
  have e : k0_pay18 (accF m ρ c 13) v w = accF m ρ c 14 := acc_of m ρ 13 14 rfl hv hw
  rw [e]
  iapply Hk $$ %() HO HR H0 H1

end Cert.KernelProof

end
-- ==== Proof.Cuts.lean ====
/-
Buffers held piece by piece: the sending buffer's sixteen chunks, the receiving buffer's sixteen slots, the two buffers
for the weights, and the weights' two half shares.
-/
module

public import proofs.«01_k».proof.Proof.Parts2

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## Which elements a piece has -/

/-- Pieces told apart by a number of their elements are disjoint, -/
theorem apart_of {X : Type} [DecidableEq X] {n : ℕ} {I : Fin n → Finset X} {key : X → ℕ} (h : ∀ b y, y ∈ I b ↔ key y = b.val) :
    ∀ b b', b ≠ b' → Disjoint (I b) (I b') := fun b b' hne =>
  Finset.disjoint_left.mpr fun y hy hy' => hne (Fin.ext (((h b y).mp hy).symm.trans ((h b' y).mp hy')))
/-- and are all there is if the number stays below theirs. -/
theorem all_of {X : Type} [DecidableEq X] [Fintype X] {n : ℕ} {I : Fin n → Finset X} {key : X → ℕ} (h : ∀ b y, y ∈ I b ↔ key y = b.val)
    (hk : ∀ y, key y < n) : Finset.univ.biUnion I = Finset.univ :=
  Finset.eq_univ_iff_forall.mpr fun y => Finset.mem_biUnion.mpr ⟨⟨key y, hk y⟩, Finset.mem_univ _, (h _ y).mpr rfl⟩

/-- An entry of the sending buffer lies in chunk `j` when its row, divided by 256, is `j`. -/
theorem mem_chunk (j : Fin 16) (y : S4096x256.Idx) : y ∈ (chunkM j).view.set ↔ (y 0).val / 256 = j.val := by
  have e : (chunkM j).view.set = (chunkR j).set := View.set_slice_whole cc0_scratch0 (chunkR j)
  rw [e, Rect.mem_set_unit]
  have h1 : (y 1).val < 256 := (y 1).isLt
  constructor
  · intro h
    have h0 : 256 * j.val ≤ (y 0).val ∧ (y 0).val < 256 * j.val + 256 := h 0
    omega
  · intro h a
    match a with
    | 0 => show 256 * j.val ≤ (y 0).val ∧ (y 0).val < 256 * j.val + 256; omega
    | 1 => show 0 ≤ (y 1).val ∧ (y 1).val < 0 + 256; omega
/-- An entry of the receiving buffer lies in slot `s` when its first coordinate is `s`. -/
theorem mem_slot (s : Fin 16) (y : S16x256x256.Idx) : y ∈ (slotM s).view.set ↔ (y 0).val = s.val := by
  have e : (slotM s).view.set = (slotR s).set :=
    (Memref.set_view_squeeze _ _).trans (View.set_slice_whole cc0_scratch1 (slotR s))
  rw [e, Rect.mem_set_unit]
  have h1 : (y 1).val < 256 := (y 1).isLt
  have h2 : (y 2).val < 256 := (y 2).isLt
  constructor
  · intro h
    have h0 : s.val ≤ (y 0).val ∧ (y 0).val < s.val + 1 := h 0
    omega
  · intro h a
    match a with
    | 0 => show s.val ≤ (y 0).val ∧ (y 0).val < s.val + 1; omega
    | 1 => show 0 ≤ (y 1).val ∧ (y 1).val < 0 + 256; omega
    | 2 => show 0 ≤ (y 2).val ∧ (y 2).val < 0 + 256; omega
/-- An entry of the buffer for the weights lies in half `b` when its first coordinate is `b`. -/
theorem mem_wslot (b : Fin 2) (y : S2x256x2048.Idx) : y ∈ (wslotM b).view.set ↔ (y 0).val = b.val := by
  have e : (wslotM b).view.set = (wslotR b).set :=
    (Memref.set_view_squeeze _ _).trans (View.set_slice_whole cc0_scratch2 (wslotR b))
  rw [e, Rect.mem_set_unit]
  have h1 : (y 1).val < 256 := (y 1).isLt
  have h2 : (y 2).val < 2048 := (y 2).isLt
  constructor
  · intro h
    have h0 : b.val ≤ (y 0).val ∧ (y 0).val < b.val + 1 := h 0
    omega
  · intro h a
    match a with
    | 0 => show b.val ≤ (y 0).val ∧ (y 0).val < b.val + 1; omega
    | 1 => show 0 ≤ (y 1).val ∧ (y 1).val < 0 + 256; omega
    | 2 => show 0 ≤ (y 2).val ∧ (y 2).val < 0 + 2048; omega

/-- Every row lies in one of sixteen chunks. -/
theorem chunk_lt (y : S4096x256.Idx) : (y 0).val / 256 < 16 := by have h : (y 0).val < 4096 := (y 0).isLt; omega
/-- Every entry of the receiving buffer lies in one of sixteen slots. -/
theorem slot_lt (y : S16x256x256.Idx) : (y 0).val < 16 := (y 0).isLt
/-- Every entry of the buffer for the weights lies in one of two halves. -/
theorem wslot_lt (y : S2x256x2048.Idx) : (y 0).val < 2 := (y 0).isLt

/-! ## The pieces of a family -/

/-- A family over the devices: `c`'s member, and its peers'. -/
theorem by_peers (c : Dev nD) (Φ : Dev nD → sProp 𝕄) :
    bigSep Finset.univ Φ = iprop(Φ c ∗ bigSep Finset.univ fun r => Φ (peer c r)) := by
  rw [bigSep_univ_at Φ c, erase_self, bigSep_map]; rfl
/-- The slots other than slot 0 are the successors. -/
theorem succs : (Finset.univ.erase 0 : Finset (Fin 16)) = Finset.univ.map ⟨Fin.succ (n := 15), Fin.succ_injective _⟩ := by decide +kernel
/-- A family over the slots: slot 0, and the later ones. -/
theorem by_slots (Φ : Fin 16 → sProp 𝕄) :
    bigSep Finset.univ Φ = iprop(Φ 0 ∗ bigSep Finset.univ fun r : Fin 15 => Φ r.succ) := by
  rw [bigSep_univ_at Φ 0, succs, bigSep_map]; rfl

/-! ## The buffers -/

/-- The filled sending buffer is its chunks, `c`'s own and those for its peers. -/
theorem xs_cut (c : Dev nD) :
    xsPts c (xs m ρ c) = iprop(chunkPts m ρ c c ∗ bigSep Finset.univ fun r => chunkPts m ρ c (peer c r)) :=
  have e : (((c : Thread nD τ).loc cc0_scratch0) ↦{fullShare} xs m ρ c : sProp 𝕄) = bigSep Finset.univ (chunkPts m ρ c) :=
    Ring.pointsTo_blocks (ℓ := (c : Thread nD τ).loc cc0_scratch0) (q := fullShare) (fun j : Fin 16 => (chunkM j).view.set)
      (apart_of mem_chunk) (all_of mem_chunk chunk_lt) (xs m ρ c)
  e.trans (by_peers c (chunkPts m ρ c))

/-- The receiving buffer is its slots. -/
theorem xb_cut (c : Dev nD) (f : Buf (Elt F) ((c : Thread nD τ).loc cc0_scratch1)) :
    (((c : Thread nD τ).loc cc0_scratch1) ↦{fullShare} f : sProp 𝕄)
      = iprop(slotPts c 0 f ∗ bigSep Finset.univ fun r : Fin 15 => slotPts c r.succ f) :=
  have e : (((c : Thread nD τ).loc cc0_scratch1) ↦{fullShare} f : sProp 𝕄) = bigSep Finset.univ (fun s => slotPts c s f) :=
    Ring.pointsTo_blocks (ℓ := (c : Thread nD τ).loc cc0_scratch1) (q := fullShare) (fun j : Fin 16 => (slotM j).view.set)
      (apart_of mem_slot) (all_of mem_slot slot_lt) f
  e.trans (by_slots fun s => slotPts c s f)
/-- Slot 0 and the later ones, whatever each holds, make the receiving buffer. -/
theorem xb_join (c : Dev nD) (f₀ : Buf (Elt F) ((c : Thread nD τ).loc cc0_scratch1)) :
    iprop((∃ f, slotPts c 0 f) ∗ bigSep Finset.univ fun r : Fin 15 => iprop(∃ f, slotPts c r.succ f))
      ⊢ (iprop(∃ f, ((c : Thread nD τ).loc cc0_scratch1) ↦{fullShare} f) : sProp 𝕄) :=
  have e : bigSep Finset.univ (fun s => iprop(∃ f, slotPts c s f)) ⊢ (iprop(∃ f, ((c : Thread nD τ).loc cc0_scratch1) ↦{fullShare} f) : sProp 𝕄) :=
    Ring.pointsTo_blocks_join_exists (ℓ := (c : Thread nD τ).loc cc0_scratch1) (q := fullShare) (fun j : Fin 16 => (slotM j).view.set)
      (apart_of mem_slot) (all_of mem_slot slot_lt) f₀
  (Entails.of_eq (by_slots fun s => iprop(∃ f, slotPts c s f)).symm).trans e

/-- The buffer for the weights is its two halves. -/
theorem wb_cut (c : Dev nD) (f : Buf (Elt F) ((c : Thread nD τ).loc cc0_scratch2)) :
    (((c : Thread nD τ).loc cc0_scratch2) ↦{fullShare} f : sProp 𝕄) = iprop(wslotPts c 0 f ∗ wslotPts c 1 f) :=
  have e : (((c : Thread nD τ).loc cc0_scratch2) ↦{fullShare} f : sProp 𝕄) = bigSep Finset.univ (fun b => wslotPts c b f) :=
    Ring.pointsTo_blocks (ℓ := (c : Thread nD τ).loc cc0_scratch2) (q := fullShare) (fun j : Fin 2 => (wslotM j).view.set)
      (apart_of mem_wslot) (all_of mem_wslot wslot_lt) f
  e.trans (bigSep_univ_two fun b => wslotPts c b f)
/-- The two halves, whatever each holds, make the buffer for the weights. -/
theorem wb_join (c : Dev nD) (f₀ : Buf (Elt F) ((c : Thread nD τ).loc cc0_scratch2)) :
    iprop((∃ f, wslotPts c 0 f) ∗ ∃ f, wslotPts c 1 f) ⊢ (iprop(∃ f, ((c : Thread nD τ).loc cc0_scratch2) ↦{fullShare} f) : sProp 𝕄) :=
  have e : bigSep Finset.univ (fun b => iprop(∃ f, wslotPts c b f)) ⊢ (iprop(∃ f, ((c : Thread nD τ).loc cc0_scratch2) ↦{fullShare} f) : sProp 𝕄) :=
    Ring.pointsTo_blocks_join_exists (ℓ := (c : Thread nD τ).loc cc0_scratch2) (q := fullShare) (fun j : Fin 2 => (wslotM j).view.set)
      (apart_of mem_wslot) (all_of mem_wslot wslot_lt) f₀
  (Entails.of_eq (bigSep_univ_two fun b => iprop(∃ f, wslotPts c b f)).symm).trans e

/-- The weights whole are the two half shares of them. -/
theorem w_cut (c : Dev nD) :
    (((c : Thread nD τ).loc main_arg1) ↦{fullShare} wts m ρ c : sProp 𝕄) ⊣⊢ iprop(wHalf m ρ c 0 ∗ wHalf m ρ c 1) :=
  pointsTo_share (PosShare.mem_left_op_right fullShare)

/-- Both weight buffers free: the buffer whole, its two semaphores at zero, and the weights. -/
theorem w_free (c : Dev nD) :
    iprop((∃ f, ((c : Thread nD τ).loc cc0_scratch2) ↦{fullShare} f) ∗ semVal (wCell c 0) 0 ∗ semVal (wCell c 1) 0
      ∗ ((c : Thread nD τ).loc main_arg1) ↦{fullShare} wts m ρ c) ⊢ (iprop(WFree m ρ c 0 ∗ WFree m ρ c 1) : sProp 𝕄) := by
  unfold WFree
  iintro ⟨⟨%f, Hf⟩, H0, H1, Hw⟩
  ihave Hf := (Entails.of_eq (wb_cut c f)) $$ Hf
  icases Hf with ⟨Hf0, Hf1⟩
  ihave Hw := (w_cut m ρ c).1 $$ Hw
  icases Hw with ⟨Hw0, Hw1⟩
  isplitl [Hf0 H0 Hw0]
  · isplitl [Hf0]; · iexists f; iexact Hf0
    isplitl [H0] <;> iassumption
  · isplitl [Hf1]; · iexists f; iexact Hf1
    isplitl [H1] <;> iassumption
/-- The converse: both weight buffers free give the buffer, its counters at zero and the weights back. -/
theorem w_back (c : Dev nD) :
    (iprop(WFree m ρ c 0 ∗ WFree m ρ c 1) : sProp 𝕄) ⊢ iprop((∃ f, ((c : Thread nD τ).loc cc0_scratch2) ↦{fullShare} f) ∗ semVal (wCell c 0) 0
      ∗ semVal (wCell c 1) 0 ∗ ((c : Thread nD τ).loc main_arg1) ↦{fullShare} wts m ρ c) := by
  unfold WFree
  iintro ⟨⟨⟨%f0, Hf0⟩, H0, Hw0⟩, Hf1, H1, Hw1⟩
  isplitl [Hf0 Hf1]
  · iapply (wb_join c f0); isplitl [Hf0]; · iexists f0; iexact Hf0
    iexact Hf1
  isplitl [H0]; · iexact H0
  isplitl [H1]; · iexact H1
  iapply (w_cut m ρ c).2; isplitl [Hw0] <;> iassumption

end Cert.KernelProof

end
-- ==== Proof.Body.lean ====
/-
The kernel's last parts, and its body from end to end.
-/
module

public import proofs.«01_k».proof.Proof.Cuts

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The end of the body -/

/-- The staging buffer of the result, holding `f`. -/
abbrev oPts (c : Dev nD) (f : Buf (Elt F) ((c : Thread nD τ).loc cc0_stg1_0)) : sProp 𝕄 := ((c : Thread nD τ).loc cc0_stg1_0) ↦{fullShare} f

section Fill

variable {α : Type} {Q : α → sProp (MT nD τ sig Unit (Elt F) ℕ UU ℕ)}

/-- The result is stored whole, `w`, after a load of its buffer that nobody reads. -/
theorem fill_out (c : Dev nD) (f : Buf (Elt F) ((c : Thread nD τ).loc cc0_stg1_0)) (w : (cc0_stg1_0 : Ref sig .tc).ty.Contents (Elt F)) {h}
    {hl : oM.view.LoadsAt (Rect.unit (s := S256x2048) ![0, 0] S256x2048.size h).toLoadRect} {hs hd}
    {k : PUnit → Prog (TpuEff nD τ sig (Elt F) Λ₀ .tc) α} :
    oPts c f ⊢ iprop((oPts c w -∗ WP c (k ⟨⟩) Q)
      -∗ WP c (.op (.load oM (Rect.unit (s := S256x2048) ![0, 0] S256x2048.size h).toLoadRect hl)
        (fun _ => .op (.store oM (Rect.unit (s := S256x2048) ![0, 0] S256x2048.size h) w Finset.univ hs hd) k)) Q) := by
  have e : (oM.access (Rect.unit (s := S256x2048) ![0, 0] S256x2048.size h) : View sig .tc _ _ _).write (Elt F) f w Finset.univ = w :=
    Memref.write_access_unit_zero_univ (Elt F) cc0_stg1_0 zero2 h f w
  iintro Hs Hk
  iapply (wp_load 𝒱₀ (c : Thread nD τ) none Set.univ (m := oM) (Finset.subset_univ _)) $$ Hs
  iintro Hs
  iapply (wp_store 𝒱₀ (c : Thread nD τ) none Set.univ (m := oM)
    (r := Rect.unit (s := S256x2048) ![0, 0] S256x2048.size h) (Mk := Finset.univ) (Finset.subset_univ _)) $$ Hs
  iintro Hs
  rw [e]
  iapply Hk; iexact Hs

end Fill

/-- The last chunk has come: the last block, the result, and the first two sends given back. -/
theorem part28 (c : Dev nD) (Q : PUnit → sProp 𝕄) :
    known m ρ K ⊢ iprop(debt c 0 -∗ Recvs m ρ c 14 -∗ WHave m ρ c 1 (back c 15) -∗ (∃ f, oPts c f) -∗ Backs m ρ c 0
      -∗ (debt c 0 -∗ Recvs m ρ c 15 -∗ WHave m ρ c 1 (back c 15) -∗ oPts c (outAt m ρ c) -∗ Backs m ρ c 2 -∗ Q ⟨⟩)
      -∗ WP c ((onArgs (k0_part28 (F := F))) c (accF m ρ c 14)) Q) := by
  unfold onArgs
  rw [k0_part28_eq_skeleton]; unfold k0_part28_skel
  simp only [Prog.lift, Prog.bind_op, Prog.bind_ret, Prog.pure_eq_ret]
  iintro #HK HO HR H1 ⟨%f, Ho⟩ HB Hk
  iapply (step_recv m ρ K c 14 14 rfl rfl rfl) $$ HK HR HO; iintro ⟨HR, HO⟩
  iapply (load_slot m ρ c 14 15 (by decide) rfl) $$ HR; iintro %v %hv HR
  iapply (load_wslot m ρ c 1 (back c 15) rfl) $$ H1; iintro %w %hw H1
  have e : k0_pay19 (accF m ρ c 14) v w = outAt m ρ c := by
    have e' := acc_of m ρ 14 15 rfl hv hw
    show maximumf (k0_pay3 (accF m ρ c 14) v w) _ = _
    rw [e']; rfl
  iapply (fill_out c f (k0_pay19 (accF m ρ c 14) v w)) $$ Ho; iintro Ho
  rw [e]
  iapply (step_back m ρ K c 0 0 rfl rfl rfl) $$ HK HB HO; iintro ⟨HB, HO⟩
  iapply (step_back m ρ K c 1 1 rfl rfl rfl) $$ HK HB HO; iintro ⟨HB, HO⟩
  iapply (step_ret c)
  iapply Hk $$ HO HR H1 Ho HB

/-- Four sends given back. -/
theorem part29 (c : Dev nD) (Q : PUnit → sProp 𝕄) :
    known m ρ K ⊢ iprop(debt c 0 -∗ Backs m ρ c 2 -∗ (debt c 0 -∗ Backs m ρ c 6 -∗ Q ⟨⟩) -∗ WP c ((onArgs (k0_part29 (F := F))) c) Q) := by
  unfold onArgs
  rw [k0_part29_eq_skeleton]; unfold k0_part29_skel
  simp only [Prog.lift, Prog.bind_op, Prog.bind_ret, Prog.pure_eq_ret]
  iintro #HK HO HB Hk
  iapply (step_back m ρ K c 2 2 rfl rfl rfl) $$ HK HB HO; iintro ⟨HB, HO⟩
  iapply (step_back m ρ K c 3 3 rfl rfl rfl) $$ HK HB HO; iintro ⟨HB, HO⟩
  iapply (step_back m ρ K c 4 4 rfl rfl rfl) $$ HK HB HO; iintro ⟨HB, HO⟩
  iapply (step_back m ρ K c 5 5 rfl rfl rfl) $$ HK HB HO; iintro ⟨HB, HO⟩
  iapply (step_ret c)
  iapply Hk $$ HO HB

/-- Five sends given back. -/
theorem part30 (c : Dev nD) (Q : PUnit → sProp 𝕄) :
    known m ρ K ⊢ iprop(debt c 0 -∗ Backs m ρ c 6 -∗ (debt c 0 -∗ Backs m ρ c 11 -∗ Q ⟨⟩) -∗ WP c ((onArgs (k0_part30 (F := F))) c) Q) := by
  unfold onArgs
  rw [k0_part30_eq_skeleton]; unfold k0_part30_skel
  simp only [Prog.lift, Prog.bind_op, Prog.bind_ret, Prog.pure_eq_ret]
  iintro #HK HO HB Hk
  iapply (step_back m ρ K c 6 6 rfl rfl rfl) $$ HK HB HO; iintro ⟨HB, HO⟩
  iapply (step_back m ρ K c 7 7 rfl rfl rfl) $$ HK HB HO; iintro ⟨HB, HO⟩
  iapply (step_back m ρ K c 8 8 rfl rfl rfl) $$ HK HB HO; iintro ⟨HB, HO⟩
  iapply (step_back m ρ K c 9 9 rfl rfl rfl) $$ HK HB HO; iintro ⟨HB, HO⟩
  iapply (step_back m ρ K c 10 10 rfl rfl rfl) $$ HK HB HO; iintro ⟨HB, HO⟩
  iapply (step_ret c)
  iapply Hk $$ HO HB

/-! ## The body -/

/-- The duties of the transfers out: each send's completion, and its arrival at the peer. -/
def Toks (c : Dev nD) : sProp 𝕄 :=
  bigSep Finset.univ fun r : Fin 15 => iprop(dutyTok ER (sendCell c r) 0 0 ∗ dutyTok ER (recvCell (peer c r) r) 0 0)
/-- The sends' semaphores not yet waited on. -/
def SendPos (c : Dev nD) : sProp 𝕄 := bigSep Finset.univ fun r : Fin 15 => atPos ER (sendCell c r) 0 ∅ 0

/-- The tokens of the transfers out, with the chunks to send, are what the sends start from. -/
theorem stock_of (c : Dev nD) : iprop(Toks c ∗ bigSep Finset.univ fun r => chunkPts m ρ c (peer c r)) ⊢ Stock m ρ c := by
  have h (r : Fin 15) : iprop((dutyTok ER (sendCell c r) 0 0 ∗ dutyTok ER (recvCell (peer c r) r) 0 0) ∗ chunkPts m ρ c (peer c r))
      ⊢ (iprop(dutyTok ER (sendCell c r) 0 0 ∗ dutyTok ER (recvCell (peer c r) r) 0 0 ∗ chunkPts m ρ c (peer c r)) : sProp 𝕄) := by
    iintro ⟨⟨H1, H2⟩, H3⟩
    isplitl [H1]; · iexact H1
    isplitl [H2] <;> iassumption
  unfold Toks Stock
  rw [← bigSep_sep']
  exact bigSep_mono fun r _ => h r
/-- Everything sent, and every sending counter still to be waited on, is what the last fifteen waits start from. -/
theorem backs_of (c : Dev nD) : iprop(Sent c ∗ SendPos c) ⊢ Backs m ρ c 0 := by
  unfold Sent SendPos Backs
  rw [← bigSep_sep', bigSep_finFrom_zero, bigSep_finUpTo_zero]
  iintro H
  isplitl; · iexact H
  iempintro

/-- A program followed by another: prove the first, with the second's proof as its outcome. -/
theorem step_bind (c : Dev nD) {α β : Type} (p : Prog (TpuEff nD τ sig (Elt F) Λ₀ .tc) α) (f : α → Prog (TpuEff nD τ sig (Elt F) Λ₀ .tc) β)
    (Q : β → sProp 𝕄) : WP c p (fun a => WP c (f a) Q) ⊢ WP c (p >>= f) Q := Entails.of_eq (wp_bind _ _ _ p f Q).symm

/-- What a device holds when the body starts, apart from what all know: -/
def Ready (c : Dev nD) : sProp 𝕄 :=
  iprop(WFree m ρ c 0 ∗ WFree m ρ c 1 ∗ xPts m ρ c ∗ (∃ f, xsPts c f) ∗ (∃ f, oPts c f) ∗ Greet c 0
    ∗ cred (tallyAt (barCell c) () 15) ∗ atPos ER (barCell c) 0 ∅ 0 ∗ Toks c ∗ SendPos c ∗ Recvs m ρ c 0)
/-- and when it ends. -/
def Finished (c : Dev nD) : sProp 𝕄 :=
  iprop(WFree m ρ c 0 ∗ WFree m ρ c 1 ∗ xPts m ρ c ∗ chunkPts m ρ c c ∗ oPts c (outAt m ρ c) ∗ debt c 0
    ∗ semVal (barCell c) 0 ∗ Backs m ρ c 15 ∗ Recvs m ρ c 15)

/-- All but the last two waits. -/
theorem part31 (c : Dev nD) (Q : Dev nD → sProp 𝕄) :
    known m ρ K ⊢ iprop(Ready m ρ c
      -∗ (WFree m ρ c 0 -∗ WFree m ρ c 1 -∗ xPts m ρ c -∗ chunkPts m ρ c c -∗ oPts c (outAt m ρ c) -∗ debt c 0
        -∗ semVal (barCell c) 0 -∗ Backs m ρ c 13 -∗ Recvs m ρ c 15 -∗ Q c)
      -∗ WP c (onArgs (k0_part31 (F := F))) Q) := by
  unfold onArgs
  rw [k0_part31_eq_skeleton]; unfold k0_part31_skel
  unfold Ready
  iintro #HK ⟨H0, H1, Hx, Hs, Ho, HG, Hc, Ha, Ht, Hp, HR⟩ Hk
  iapply (step_bind c); iapply (part1 m ρ K c _) $$ HK H0 Hx Hs HG; iintro %v2 H0 Hx Hs HG
  ihave Hs := (Entails.of_eq (xs_cut m ρ c)) $$ Hs
  icases Hs with ⟨Hown, Hs⟩
  ihave Hst := (stock_of m ρ c) $$ [Ht Hs]
  · isplitl [Ht] <;> iassumption
  iapply (step_bind c); iapply (part2 m ρ K c v2 _) $$ HK HG; iintro HG
  iapply (step_bind c); iapply (part3 m ρ K c v2 _) $$ HK HG; iintro HG
  iapply (step_bind c); iapply (part4 m ρ K c v2 _) $$ HK HG Hc Ha Hst; iintro %v101 Hz HS
  iapply (step_bind c); iapply (part5 m ρ K c v2 _ _) $$ HK HS; iintro HS
  iapply (step_bind c); iapply (part6 m ρ K c v2 _) $$ HK HS; iintro %v161 HS
  iapply (step_bind c); iapply (part7 m ρ K c v2 _ _) $$ HK HS; iintro HS
  iapply (step_bind c); iapply (part8 m ρ K c v2 _) $$ HK HS; iintro %v221 HS
  iapply (step_bind c); iapply (part9 m ρ K c v2 _ _) $$ HK HS; iintro HS
  iapply (step_bind c); iapply (part10 m ρ K c v2 _) $$ HK HS H0 H1 Hown; iintro HO HS H0 H1 Hown
  iapply (step_bind c); iapply (part11 m ρ K c v2 _) $$ HK HO HR H0 H1; iintro %_ HO HR H0 H1
  iapply (step_bind c); iapply (part12 m ρ K c v2 _) $$ HK HO HR H0 H1; iintro %_ HO HR H0 H1
  iapply (step_bind c); iapply (part13 m ρ K c v2 _) $$ HK HO HR H0 H1; iintro %_ HO HR H0 H1
  iapply (step_bind c); iapply (part14 m ρ K c v2 _) $$ HK HO HR H0 H1; iintro %z14 HO HR H0 H1
  iapply (step_bind c); iapply (part15 m ρ K c v2 _ _) $$ HK HO HR H0 H1; iintro %z15 HO HR H0 H1
  iapply (step_bind c); iapply (part16 m ρ K c v2 _ _) $$ HK HO HR H0 H1; iintro %z16 HO HR H0 H1
  iapply (step_bind c); iapply (part17 m ρ K c v2 _ _ _) $$ HK HO HR H0 H1; iintro %_ HO HR H0 H1
  iapply (step_bind c); iapply (part18 m ρ K c v2 _) $$ HK HO HR H0 H1; iintro %_ HO HR H0 H1
  iapply (step_bind c); iapply (part19 m ρ K c v2 _) $$ HK HO HR H0 H1; iintro %_ HO HR H0 H1
  iapply (step_bind c); iapply (part20 m ρ K c v2 _) $$ HK HO HR H0 H1; iintro %_ HO HR H0 H1
  iapply (step_bind c); iapply (part21 m ρ K c v2 _) $$ HK HO HR H0 H1; iintro %z21 HO HR H0 H1
  iapply (step_bind c); iapply (part22 m ρ K c v2 _ _) $$ HK HO HR H0 H1; iintro %z22 HO HR H0 H1
  iapply (step_bind c); iapply (part23 m ρ K c v2 _ _ _) $$ HK HO HR H0 H1; iintro %_ HO HR H0 H1
  iapply (step_bind c); iapply (part24 m ρ K c v2 _) $$ HK HO HR H0 H1; iintro %_ HO HR H0 H1
  iapply (step_bind c); iapply (part25 m ρ K c v2 _) $$ HK HO HR H0 H1; iintro %_ HO HR H0 H1
  iapply (step_bind c); iapply (part26 m ρ K c v2 _) $$ HK HO HR H0 H1; iintro %_ HO HR H0 H1
  iapply (step_bind c); iapply (part27 m ρ K c v2 _) $$ HK HO HR H0 H1; iintro %_ HO HR H0 H1
  ihave HB := (backs_of m ρ c) $$ [HS Hp]
  · isplitl [HS] <;> iassumption
  iapply (step_bind c); iapply (part28 m ρ K c _) $$ HK HO HR H1 Ho HB; iintro HO HR H1 Ho HB
  iapply (step_bind c); iapply (part29 m ρ K c _) $$ HK HO HB; iintro HO HB
  iapply (step_bind c); iapply (part30 m ρ K c _) $$ HK HO HB; iintro HO HB
  simp only [Prog.lift, Prog.bind_op, Prog.bind_ret, Prog.pure_eq_ret]
  iapply (step_back m ρ K c 11 11 rfl rfl rfl) $$ HK HB HO; iintro ⟨HB, HO⟩
  iapply (step_back m ρ K c 12 12 rfl rfl rfl) $$ HK HB HO; iintro ⟨HB, HO⟩
  iapply (step_ret c)
  ihave H0 := (WHave_free m ρ c 0 _) $$ H0
  ihave H1 := (WHave_free m ρ c 1 _) $$ H1
  iapply Hk $$ H0 H1 Hx Hown Ho HO Hz HB HR

/-- The whole body. -/
theorem body (c : Dev nD) (Q : PUnit → sProp 𝕄) :
    known m ρ K ⊢ iprop(Ready m ρ c -∗ (Finished m ρ c -∗ Q ⟨⟩) -∗ WP c (onArgs (cc0_body (F := F))) Q) := by
  unfold onArgs
  rw [cc0_body_eq_skeleton]; unfold cc0_body_skel
  iintro #HK H Hk
  iapply (step_bind c); iapply (part31 m ρ K c _) $$ HK H; iintro H0 H1 Hx Hown Ho HO Hz HB HR
  simp only [Prog.lift, Prog.bind_op, Prog.bind_ret, Prog.pure_eq_ret]
  iapply (step_back m ρ K c 13 13 rfl rfl rfl) $$ HK HB HO; iintro ⟨HB, HO⟩
  iapply (step_back m ρ K c 14 14 rfl rfl rfl) $$ HK HB HO; iintro ⟨HB, HO⟩
  iapply (step_ret c)
  iapply Hk
  unfold Finished
  isplitl [H0]; · iexact H0
  isplitl [H1]; · iexact H1
  isplitl [Hx]; · iexact Hx
  isplitl [Hown]; · iexact Hown
  isplitl [Ho]; · iexact Ho
  isplitl [HO]; · iexact HO
  isplitl [Hz]; · iexact Hz
  isplitl [HB] <;> iassumption

end Cert.KernelProof

end
-- ==== Proof.Ghost.lean ====
/-
The launch, its ghost part: the devices' cells, their invariants, the duties dealt to who performs them, and the credit
each device starts with.
-/
module

public import proofs.«01_k».proof.Proof.Body

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The kernel's own semaphores -/

/-- The two semaphores of the arrays that no transfer uses. -/
def idleS (b : Bool) : DmaSem sig := if b then ⟨18, by decide⟩ else ⟨2, by decide⟩
/-- The kernel's own semaphores: two idle, two for the weights, the sending and the receiving sides. -/
abbrev SK : Type := Bool ⊕ (Fin 2 ⊕ (Fin 15 ⊕ Fin 15))
/-- The kernel's own semaphores, in the order of `SK`. -/
abbrev osem : SK → SemLoc sig := fun
  | .inl b => .dma (idleS b)
  | .inr (.inl b) => .dma (wS b)
  | .inr (.inr k) => csem (.inr k)

/-- They are distinct, scoped to the kernel, and none belongs to the pipeline. -/
theorem ownSemFacts : Pipeline.OwnSemFacts cfg0.spec osem := by decide +kernel

/-- The semaphores that carry no round: idle ones and those of the weights, at zero. -/
def Spare (c : Dev nD) : sProp 𝕄 :=
  iprop((bigSep Finset.univ fun b => semVal ((c : Thread nD τ), .dma (idleS b)) 0) ∗ semVal (wCell c 0) 0 ∗ semVal (wCell c 1) 0)
/-- The semaphores that carry a round, at zero. -/
def Zeros (c : Dev nD) : sProp 𝕄 := bigSep Finset.univ fun k : CK => semVal (kcell (c, k)) 0

/-- The kernel's own counters at zero, by kind: idle, of the weights' copies, of the transfers. -/
theorem ownSems0_eq (c : Dev nD) :
    (Pipeline.ownSems0 (Ix := Unit) (Name := ℕ) (U := UU) (Lvl := ℕ) (Val := Elt F) (τ := τ) osem c : sProp 𝕄)
      = iprop((bigSep Finset.univ fun b => semVal ((c : Thread nD τ), .dma (idleS b)) 0)
        ∗ (semVal (wCell c 0) 0 ∗ semVal (wCell c 1) 0) ∗ bigSep Finset.univ fun k : Fin 15 ⊕ Fin 15 => semVal (kcell (c, .inr k)) 0) := by
  unfold Pipeline.ownSems0; rw [bigSep_univ_sum, bigSep_univ_sum, bigSep_univ_two]; rfl
/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The counters that carry a round: the barrier's, and the transfers'. -/
theorem zeros_eq (c : Dev nD) : (Zeros c : sProp 𝕄)
    = iprop(semVal (barCell c) 0 ∗ bigSep Finset.univ fun k : Fin 15 ⊕ Fin 15 => semVal (kcell (c, .inr k)) 0) := by
  unfold Zeros; rw [bigSep_univ_sum, bigSep_univ_of_subsingleton ()]; rfl

/-- All counters of a device at zero, sorted into those that carry a round and the others. -/
theorem sems_take (c : Dev nD) :
    iprop(Pipeline.ownSems0 (Ix := Unit) (Name := ℕ) (U := UU) (Lvl := ℕ) (Val := Elt F) (τ := τ) osem c ∗ unscopedSems0 c)
      ⊢ (iprop(Zeros c ∗ Spare c) : sProp 𝕄) := by
  rw [ownSems0_eq, unscopedSems0_eq, zeros_eq]
  unfold Spare
  iintro ⟨⟨HI, HW, HK⟩, HB⟩
  isplitl [HB HK]
  · isplitl [HB] <;> iassumption
  isplitl [HI] <;> iassumption
/-- The converse of `sems_take`. -/
theorem sems_give (c : Dev nD) :
    iprop(Zeros c ∗ Spare c)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq, zeros_eq]
  unfold Spare
  iintro ⟨⟨HB, HK⟩, HI, HW⟩
  isplitl [HB]; · iexact HB
  isplitl [HI]; · iexact HI
  isplitl [HW] <;> iassumption

/-! ## Cells and tokens at launch -/

/-- Different kinds of cell have different semaphores, -/
theorem csem_injective : Function.Injective csem := by decide +kernel
/-- so different kinds, or the same on different devices, are different cells. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells that carry a round, of all devices. -/
def devCells : Finset (GSem nD τ sig) := Finset.univ.map ⟨kcell, kcell_injective⟩

/-- The duties of a device's own cells: fifteen greetings, fifteen sends, fifteen arrivals. -/
abbrev TK : Type := Fin 15 ⊕ (Fin 15 ⊕ Fin 15)
/-- The kind of cell, and the number of the duty there, that a duty belongs to. -/
abbrev tokKind : TK → CK × Fin 15 := fun
  | .inl d => (.inl (), d)
  | .inr k => (.inr k, 0)
/-- The cell, the round and the number of a duty. -/
abbrev tokOf (ct : Dev nD × TK) : GSem nD τ sig × ℕ × Fin 15 := (kcell (ct.1, (tokKind ct.2).1), 0, (tokKind ct.2).2)
/-- Different duties of one device have different kinds or numbers, -/
theorem tokKind_injective : Function.Injective tokKind := by decide +kernel
/-- so all duties of all devices are different. -/
theorem tokOf_injective : Function.Injective (tokOf : Dev nD × TK → GSem nD τ sig × ℕ × Fin 15) := by
  rintro ⟨c, t⟩ ⟨c', t'⟩ h
  have h1 := kcell_injective (congrArg Prod.fst h)
  have h2 : (tokKind t).2 = (tokKind t').2 := congrArg (fun x => x.2.2) h
  have h3 : c = c' := congrArg Prod.fst h1
  have h4 : t = t' := tokKind_injective (Prod.ext (congrArg Prod.snd h1) h2)
  rw [h3, h4]
/-- All duties, of all devices. -/
def devToks : Finset (GSem nD τ sig × ℕ × Fin 15) := Finset.univ.map ⟨tokOf, tokOf_injective⟩

/-- The ghost state at launch: the pipeline's rounds, and the devices'. -/
def u₀ : UU :=
  (initOf (Pipeline.cells cfgs cellOf_inj) (Pipeline.launchToks cfgs cellOf_inj), (initOf devCells devToks, 1))

/-- The duty tokens of device `c`'s own cells. -/
def Minted (c : Dev nD) : sProp 𝕄 :=
  iprop((bigSep Finset.univ fun d : Fin 15 => dutyTok ER (barCell c) 0 d) ∗ (bigSep Finset.univ fun r : Fin 15 => dutyTok ER (sendCell c r) 0 0)
    ∗ bigSep Finset.univ fun r : Fin 15 => dutyTok ER (recvCell c r) 0 0)
/-- The duty tokens of what device `c` does: its greetings, and its transfers. -/
def Doing (c : Dev nD) : sProp 𝕄 :=
  iprop((bigSep Finset.univ fun r : Fin 15 => dutyTok ER (barCell (peer c r)) 0 r.rev) ∗ Toks c)
/-- Device `c` before the first round of each of its cells. -/
def Pos (c : Dev nD) : sProp 𝕄 := bigSep Finset.univ fun k : CK => atPos ER (kcell (c, k)) 0 ∅ 0

/-- What the ghost state gives device `c`: its cells' rounds at their start, its place before them, and its duty tokens. -/
def G (c : Dev nD) : sProp 𝕄 :=
  iprop((bigSep Finset.univ fun k : CK => roundState ER (Rd m ρ) (kcell (c, k)) 0)
    ∗ (Pos c ∗ bigSep Finset.univ fun k : CK => reached ER (kcell (c, k)) 0) ∗ Minted c)

/-- The devices' ghost state at launch gives every device its part. -/
theorem fund_dev : BI.own (ER (initOf devCells devToks)) ⊢ (|==> bigSep Finset.univ (G m ρ) : sProp 𝕄) := by
  have hX (Φ : GSem nD τ sig → sProp 𝕄) : bigSep devCells Φ = bigSep Finset.univ fun c : Dev nD => bigSep Finset.univ fun k : CK => Φ (kcell (c, k)) := by
    unfold devCells; rw [bigSep_map, bigSep_univ_prod]; rfl
  have hT : bigSep devToks (fun x => (dutyTok ER x.1 x.2.1 x.2.2 : sProp 𝕄)) = bigSep Finset.univ fun c : Dev nD => Minted c := by
    unfold devToks; rw [bigSep_map, bigSep_univ_prod]
    exact bigSep_congr fun c _ => by unfold Minted; rw [bigSep_univ_sum, bigSep_univ_sum]; rfl
  iintro HX
  imod (Rounds.fund ER (Rd m ρ) devCells devToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G Pos; simp only [bigSep_sep']
  isplitl [Hst]; · iexact Hst
  isplitl [Hat Hr]
  · isplitl [Hat] <;> iassumption
  iexact Htok

/-- The ghost state is the pipeline's part and the devices' part. -/
theorem own_cut (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The invariants, and the tokens dealt -/

/-- On one device: the counters at zero and the rounds at their start become the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => reached ER (kcell (c, k)) 0) ∗ Pos c ∗ Minted c ∗ Spare c) := by
  have hi : iprop(Zeros c ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) := by
    unfold Zeros
    rw [← bigSep_sep']
    exact (bigSep_mono fun k _ => (Rounds.body_intro ER (Rd m ρ) (kcell (c, k))).trans inv_alloc).trans (bigSep_fupd _ _)
  unfold G
  iintro ⟨Hos, Hus, Hst, ⟨Hat, Hr⟩, Htok⟩
  ihave Hv := (sems_take (F := F) c) $$ [Hos Hus]
  · isplitl [Hos] <;> iassumption
  icases Hv with ⟨Hz, Hsp⟩
  imod hi $$ [Hz Hst] with Hinv
  · isplitl [Hz] <;> iassumption
  imodintro
  isplitl [Hinv]; · iexact Hinv
  isplitl [Hr]; · iexact Hr
  isplitl [Hat]; · iexact Hat
  isplitl [Htok] <;> iassumption

/-- A family over devices and offsets, dealt to the devices the offsets lead from. -/
theorem dealt (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (peer c r) r := by
  rw [bigSep_univ_comm, bigSep_univ_comm fun (c : Dev nD) (r : Fin 15) => Φ (peer c r) r]
  exact bigSep_congr fun r _ => bigSep_univ_equiv (turn r) fun c => Φ c r

/-- The barriers' tokens, sorted by who greets instead of by who is greeted. -/
theorem dealt_bar : (bigSep Finset.univ fun c : Dev nD => bigSep Finset.univ fun d : Fin 15 => (dutyTok ER (barCell c) 0 d : sProp 𝕄))
    = bigSep Finset.univ fun c : Dev nD => bigSep Finset.univ fun r : Fin 15 => dutyTok ER (barCell (peer c r)) 0 r.rev :=
  (bigSep_congr fun c _ => bigSep_univ_equiv Fin.revPerm fun d => dutyTok ER (barCell c) 0 d).trans
    (dealt fun c r => dutyTok ER (barCell c) 0 r.rev)

/-- All tokens, sorted by who discharges the duty instead of by whose cell it is at. -/
theorem toks_dealt : (bigSep Finset.univ fun c : Dev nD => (Minted c : sProp 𝕄)) ⊢ bigSep Finset.univ fun c : Dev nD => Doing c := by
  unfold Minted Doing Toks
  simp only [bigSep_sep']
  rw [dealt_bar, dealt fun c r => dutyTok ER (recvCell c r) 0 0]

/-- What device `c` starts from, of what the launch made. -/
def Dealt (c : Dev nD) : sProp 𝕄 := iprop(Pos c ∗ Doing c ∗ Spare c)
/-- Every cell's invariant holds and every cell has reached its round. -/
def Facts : sProp 𝕄 :=
  iprop((bigSep Finset.univ fun ck : Dev nD × CK => cellInv ER (Rd m ρ) (K ck) (kcell ck))
    ∗ bigSep Finset.univ fun ck : Dev nD × CK => reached ER (kcell ck) 0)
instance facts_persistent : BI.Persistent (Facts m ρ K) := by unfold Facts; infer_instance
/-- What device `c` starts from: what all know, and its own part. -/
def G' (c : Dev nD) : sProp 𝕄 := iprop((∃ K, Facts m ρ K) ∗ Dealt c)

/-- What every device made on its own, put together and dealt out again. -/
theorem regroup :
    (bigSep Finset.univ fun c : Dev nD => iprop((bigSep Finset.univ fun k : CK => iprop(∃ κ : ℕ, cellInv ER (Rd m ρ) κ (kcell (c, k))))
          ∗ (bigSep Finset.univ fun k : CK => reached ER (kcell (c, k)) 0) ∗ Pos c ∗ Minted c ∗ Spare c) : sProp 𝕄)
      ⊢ bigSep Finset.univ (G' m ρ) := by
  have hw (K : Dev nD × CK → ℕ) : iprop(Facts m ρ K ∗ bigSep Finset.univ fun c => Dealt c) ⊢ bigSep Finset.univ (G' m ρ) :=
    (sep_mono_left (BI.bigSep_of_persistent Finset.univ (Facts m ρ K))).trans (by
      rw [← bigSep_sep']
      refine bigSep_mono fun c _ => ?_
      show iprop(Facts m ρ K ∗ Dealt c) ⊢ iprop((∃ K, Facts m ρ K) ∗ Dealt c)
      iintro ⟨HF, HD⟩
      isplitl [HF]; · (iexists K; iexact HF)
      iexact HD)
  rw [bigSep_sep', bigSep_sep', bigSep_sep', bigSep_sep', ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, HR, Hat, Htok, Hsp⟩
  ihave HK := (BI.bigSep_exists_pi Finset.univ (fun (ck : Dev nD × CK) (κ : ℕ) => (cellInv ER (Rd m ρ) κ (kcell ck) : sProp 𝕄))) $$ HI
  icases HK with ⟨%K, HI⟩
  ihave Htk := (toks_dealt (F := F)) $$ Htok
  iapply (hw K)
  isplitl [HI HR]
  · unfold Facts; isplitl [HI] <;> iassumption
  · unfold Dealt; simp only [bigSep_sep']
    isplitl [Hat]; · iexact Hat
    isplitl [Htk] <;> iassumption

/-- All devices' semaphores at once: the cells' invariants made, and everything dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- A receiving cell is no barrier cell. -/
theorem recv_ne_bar {c c' : Dev nD} {r : Fin 15} : recvCell c r ≠ barCell c' := fun h => by cases congrArg Prod.snd h

/-- What all devices together owe a cell, when each owes `n` at its peers' cells of one family. -/
theorem owed_sum (cell : Dev nD → Fin 15 → GSem nD τ sig) (n : ℕ) (g : GSem nD τ sig) :
    (∑ d : Dev nD, (∑ r ∈ finFrom 15 0, (tallyAt (cell (peer d r) r) () n : CellTallies nD τ sig Unit)) g ())
      = ∑ r : Fin 15, ∑ c : Dev nD, if g = cell c r then n else 0 := by
  simp only [Finset.sum_apply, Finsupp.finset_sum_apply, tallyAt_apply, and_true]
  rw [Finset.sum_comm, finFrom_zero]
  exact Finset.sum_congr rfl fun r _ => Equiv.sum_comp (turn r) fun c => if g = cell c r then n else 0

/-- What all devices together owe a cell: one landing at each receiving cell, fifteen greetings at each barrier. -/
theorem owed_all (g : GSem nD τ sig) : (∑ d : Dev nD, O₀ d g ())
    = (∑ r : Fin 15, ∑ c : Dev nD, if g = recvCell c r then N else 0) + ∑ r : Fin 15, ∑ c : Dev nD, if g = barCell c then 1 else 0 := by
  rw [← owed_sum recvCell N g, ← owed_sum (fun c _ => barCell c) 1 g, ← Finset.sum_add_distrib]; rfl

/-- The credit at launch for a barrier is fifteen, -/
theorem launch_bar (c : Dev nD) :
    tallyOn (barCell c) (launchCredit (Pipeline.owing O₀) 0 (barCell c)) = (tallyAt (barCell c) () 15 : CellTallies nD τ sig Unit) := by
  have h (d : Dev nD) : (if barCell c = barCell d then 1 else 0) = if d = c then 1 else 0 :=
    if_congr ⟨fun h => (congrArg (fun g : GSem nD τ sig => g.1.1) h).symm, fun h => by rw [h]⟩ rfl rfl
  unfold tallyAt; refine congrArg _ (Finsupp.ext fun u => ?_); cases u
  rw [Pipeline.launchCredit_owing, Finsupp.single_eq_same, owed_all,
    Finset.sum_eq_zero fun r _ => Finset.sum_eq_zero fun d _ => if_neg fun h => recv_ne_bar h.symm]
  simp only [h, Finset.sum_ite_eq' Finset.univ c fun _ => 1, Finset.mem_univ, if_true, Finset.sum_const, Finset.card_univ, Fintype.card_fin]
  rfl

/-- and for a receiving cell one landing. -/
theorem launch_recv (c : Dev nD) (r : Fin 15) :
    tallyOn (recvCell c r) (launchCredit (Pipeline.owing O₀) 0 (recvCell c r)) = (tallyAt (recvCell c r) () N : CellTallies nD τ sig Unit) := by
  have hk (d : Dev nD) (r' : Fin 15) : recvCell c r = recvCell d r' ↔ d = c ∧ r' = r :=
    ⟨fun h => by
      have e := kcell_injective (a₁ := (c, .inr (.inr r))) (a₂ := (d, .inr (.inr r'))) h
      exact ⟨(congrArg Prod.fst e).symm, (Sum.inr.inj (Sum.inr.inj (congrArg Prod.snd e))).symm⟩, fun ⟨h1, h2⟩ => by rw [h1, h2]⟩
  unfold tallyAt; refine congrArg _ (Finsupp.ext fun u => ?_); cases u
  rw [Pipeline.launchCredit_owing, Finsupp.single_eq_same, owed_all,
    Finset.sum_eq_zero (f := fun _ : Fin 15 => ∑ c' : Dev nD, if recvCell c r = barCell c' then 1 else 0) fun r' _ =>
      Finset.sum_eq_zero fun d _ => if_neg recv_ne_bar,
    Nat.add_zero, Finset.sum_eq_single r (fun r' _ hr => Finset.sum_eq_zero fun d _ => if_neg fun h => hr ((hk d r').mp h).2)
      (fun h => absurd (Finset.mem_univ r) h),
    Finset.sum_eq_single c (fun d _ hd => if_neg fun h => hd ((hk d r).mp h).1) (fun h => absurd (Finset.mem_univ c) h), if_pos rfl]

/-- The receiving semaphores are different. -/
theorem recvS_injective : Function.Injective fun r : Fin 15 => (SemLoc.dma (recvS r) : SemLoc sig) := by decide +kernel

/-- The launch gives each device the credit for its barrier and for its fifteen receiving cells. -/
theorem creds (c : Dev nD) :
    (Pipeline.launchCred O₀ c : sProp 𝕄)
      ⊢ iprop(cred (tallyAt (barCell c) () 15) ∗ bigSep Finset.univ fun r : Fin 15 => cred (tallyAt (recvCell c r) () N)) := by
  have hs : (Finset.univ.map ⟨_, recvS_injective⟩ : Finset (SemLoc sig)) ⊆ Finset.univ.erase (.reg barS) := fun x hx => by
    obtain ⟨r, -, rfl⟩ := Finset.mem_map.mp hx
    exact Finset.mem_erase.mpr ⟨fun h => absurd (show (SemLoc.dma (recvS r) : SemLoc sig) = .reg barS from h) (by intro h; cases h), Finset.mem_univ _⟩
  unfold Pipeline.launchCred
  rw [bigSep_univ_at _ (SemLoc.reg barS), launch_bar]
  have hr : bigSep (Finset.univ.map ⟨_, recvS_injective⟩) (fun sm : SemLoc sig =>
        (cred (tallyOn ((c.tc : Thread nD τ), sm) (launchCredit (Pipeline.owing O₀) 0 ((c.tc : Thread nD τ), sm))) : sProp 𝕄))
      = bigSep Finset.univ fun r : Fin 15 => cred (tallyAt (recvCell c r) () N) := by
    rw [bigSep_map]
    exact bigSep_congr fun r _ => congrArg cred (launch_recv c r)
  rw [← hr]
  exact sep_mono_right (bigSep_subset hs)

end Cert.KernelProof

end
-- ==== Proof.Launch.lean ====
/-
The launch: the kernel's one grid point as the pipeline runs it, and the run of all sixteen devices.
-/
module

public import proofs.«01_k».proof.Proof.Ghost
public import proofs.«01_k».proof.Proof.Gen.Kernel.Points
public import Idealize.ShloMosaic.Lib.Pipeline.CollectiveSegs

@[expose] public section

set_option maxRecDepth 16384
set_option backward.proofsInPublic true

noncomputable section

namespace Cert.KernelProof

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The pipeline's proof data: one point -/

/-- The weights' buffer, whole. -/
def wPts (c : Dev nD) : sProp 𝕄 := ((c : Thread nD τ).loc main_arg1) ↦{fullShare} wts m ρ c
/-- The kernel's three buffers of its own, holding anything. -/
def Scratch (c : Dev nD) : sProp 𝕄 :=
  iprop((∃ f, xsPts c f) ∗ (∃ f, ((c : Thread nD τ).loc cc0_scratch1) ↦{fullShare} f) ∗ ∃ f, ((c : Thread nD τ).loc cc0_scratch2) ↦{fullShare} f)

/-- What device `c` holds at the start besides its scratch buffers: what all know, its tokens, its credits and the weights. -/
def Start (c : Dev nD) : sProp 𝕄 :=
  iprop((∃ K, known m ρ K) ∗ Dealt c ∗ cred (tallyAt (barCell c) () 15)
    ∗ (bigSep Finset.univ fun r : Fin 15 => cred (tallyAt (recvCell c r) () N)) ∗ wPts m ρ c)
/-- Beside the staged blocks, a device holds this before the body, -/
def Φ₀ (c : Dev nD) : sProp 𝕄 := iprop(Start m ρ c ∗ Scratch c)
/-- and this after it: every counter at zero, the weights, the scratch buffers. -/
def Φ₁ (c : Dev nD) : sProp 𝕄 := iprop(Zeros c ∗ Spare c ∗ wPts m ρ c ∗ Scratch c)

/-- The launch's proof data: the arrays as given, the blocks as the body leaves them, and what is held and owed before and after the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- Every window is held whole. -/
theorem share_eq (c : Dev nD) (w : Fin cfg0.W) : (dats m ρ 0 c).share w = fullShare := by unfold Dat.share; split <;> rfl

/-! ## From the launch's holdings to the body's, and back -/

/-- The places before the rounds, by kind of cell. -/
theorem pos_cut (c : Dev nD) : (Pos c : sProp 𝕄)
    = iprop(atPos ER (barCell c) 0 ∅ 0 ∗ SendPos c ∗ bigSep Finset.univ fun r : Fin 15 => atPos ER (recvCell c r) 0 ∅ 0) := by
  unfold Pos SendPos; rw [bigSep_univ_sum, bigSep_univ_sum, bigSep_univ_of_subsingleton ()]; rfl
/-- The counters at zero, by kind of cell. -/
theorem zeros_cut (c : Dev nD) : (Zeros c : sProp 𝕄)
    = iprop(semVal (barCell c) 0 ∗ (bigSep Finset.univ fun r : Fin 15 => semVal (sendCell c r) 0)
      ∗ bigSep Finset.univ fun r : Fin 15 => semVal (recvCell c r) 0) := by
  unfold Zeros; rw [bigSep_univ_sum, bigSep_univ_sum, bigSep_univ_of_subsingleton ()]; rfl

/-- The debt, the greetings' tokens and the slots to hand over are what the greetings start from. -/
theorem greet_of (c : Dev nD) (f : Buf (Elt F) ((c : Thread nD τ).loc cc0_scratch1)) :
    iprop(debt c (O₀ c) ∗ (bigSep Finset.univ fun r : Fin 15 => dutyTok ER (barCell (peer c r)) 0 r.rev)
      ∗ bigSep Finset.univ fun r : Fin 15 => slotPts c r.succ f) ⊢ (Greet c 0 : sProp 𝕄) := by
  have h (r : Fin 15) : iprop(dutyTok ER (barCell (peer c r)) 0 r.rev ∗ slotPts c r.rev.succ f)
      ⊢ (iprop(dutyTok ER (barCell (peer c r)) 0 r.rev ∗ ∃ f, slotPts c r.rev.succ f) : sProp 𝕄) := by
    iintro ⟨H, Hs⟩
    isplitl [H]; · iexact H
    iexists f; iexact Hs
  unfold Greet
  rw [bigSep_univ_equiv Fin.revPerm fun r : Fin 15 => slotPts c r.succ f, bigSep_finFrom_zero, ← bigSep_sep']
  exact sep_mono_right (bigSep_mono fun r _ => h r)

/-- The credits and places of the receiving cells are what the receipts start from. -/
theorem recvs_of (c : Dev nD) : iprop((bigSep Finset.univ fun r : Fin 15 => cred (tallyAt (recvCell c r) () N))
      ∗ bigSep Finset.univ fun r : Fin 15 => atPos ER (recvCell c r) 0 ∅ 0) ⊢ (Recvs m ρ c 0 : sProp 𝕄) := by
  unfold Recvs
  rw [bigSep_finFrom_zero, bigSep_finUpTo_zero, ← bigSep_sep']
  iintro H
  isplitl; · iexact H
  iempintro

/-- After the fifteen receipts every receiving counter is at zero and every slot is back. -/
theorem recvs_end (c : Dev nD) : (Recvs m ρ c 15 : sProp 𝕄)
    ⊢ iprop((bigSep Finset.univ fun r : Fin 15 => semVal (recvCell c r) 0) ∗ bigSep Finset.univ fun r : Fin 15 => iprop(∃ f, slotPts c r.succ f)) := by
  have h (r : Fin 15) : (recvPay m ρ c r : sProp 𝕄) ⊢ iprop(∃ f, slotPts c r.succ f) := by
    unfold recvPay
    iintro ⟨%f, -, H⟩
    iexists f; iexact H
  unfold Recvs
  rw [bigSep_finFrom_self, bigSep_finUpTo_self, bigSep_sep']
  iintro ⟨-, Hz, Hp⟩
  isplitl [Hz]; · iexact Hz
  have h' : (bigSep Finset.univ fun r : Fin 15 => recvPay m ρ c r : sProp 𝕄) ⊢ bigSep Finset.univ fun r : Fin 15 => iprop(∃ f, slotPts c r.succ f) :=
    bigSep_mono fun r _ => h r
  iapply h' $$ Hp

/-- After the fifteen last waits every sending counter is at zero and every chunk is back. -/
theorem backs_end (c : Dev nD) : (Backs m ρ c 15 : sProp 𝕄)
    ⊢ iprop((bigSep Finset.univ fun r : Fin 15 => semVal (sendCell c r) 0) ∗ bigSep Finset.univ fun r : Fin 15 => chunkPts m ρ c (peer c r)) := by
  unfold Backs
  rw [bigSep_finFrom_self, bigSep_finUpTo_self, bigSep_sep']
  iintro ⟨-, Hz, Hp⟩
  isplitl [Hz]; · iexact Hz
  iexact Hp

/-- What the body does not touch: the slot no device sends into, and the idle semaphores. -/
def Kept (c : Dev nD) : sProp 𝕄 :=
  iprop((∃ f, slotPts c 0 f) ∗ bigSep Finset.univ fun b => semVal ((c : Thread nD τ), .dma (idleS b)) 0)

/-- What a device holds at launch is what the body starts from, and what the body leaves alone. -/
theorem ready_of (c : Dev nD) (f : Buf (Elt F) ((c : Thread nD τ).loc cc0_stg1_0)) :
    iprop((Dealt c ∗ cred (tallyAt (barCell c) () 15) ∗ (bigSep Finset.univ fun r : Fin 15 => cred (tallyAt (recvCell c r) () N)) ∗ wPts m ρ c)
      ∗ Scratch c ∗ debt c (O₀ c) ∗ xPts m ρ c ∗ oPts c f) ⊢ (iprop(Ready m ρ c ∗ Kept c) : sProp 𝕄) := by
  unfold Dealt Scratch Spare Doing Ready Kept
  rw [pos_cut]
  iintro ⟨⟨⟨⟨HaB, HaS, HaV⟩, ⟨Htb, Ht⟩, HI, H0, H1⟩, Hc, Hcr, Hw⟩, ⟨Hxs, ⟨%g, Hxb⟩, Hwb⟩, HO, Hx, Ho⟩
  ihave Hxb := (Entails.of_eq (xb_cut c g)) $$ Hxb
  icases Hxb with ⟨Hs0, Hs⟩
  ihave Hwf := (w_free m ρ c) $$ [Hwb H0 H1 Hw]
  · isplitl [Hwb]; · iexact Hwb
    isplitl [H0]; · iexact H0
    isplitl [H1]; · iexact H1
    unfold wPts; iexact Hw
  icases Hwf with ⟨Hw0, Hw1⟩
  ihave HG := (greet_of c g) $$ [HO Htb Hs]
  · isplitl [HO]; · iexact HO
    isplitl [Htb] <;> iassumption
  ihave HR := (recvs_of m ρ c) $$ [Hcr HaV]
  · isplitl [Hcr] <;> iassumption
  isplitr [Hs0 HI]
  · isplitl [Hw0]; · iexact Hw0
    isplitl [Hw1]; · iexact Hw1
    isplitl [Hx]; · iexact Hx
    isplitl [Hxs]; · iexact Hxs
    isplitl [Ho]; · (iexists f; iexact Ho)
    isplitl [HG]; · iexact HG
    isplitl [Hc]; · iexact Hc
    isplitl [HaB]; · iexact HaB
    isplitl [Ht]; · iexact Ht
    isplitl [HaS] <;> iassumption
  · isplitl [Hs0]; · (iexists g; iexact Hs0)
    iexact HI

/-- What the body ends with, with what it left alone, is what a device holds after the grid point. -/
theorem finished_to (c : Dev nD) :
    iprop(Finished m ρ c ∗ Kept c) ⊢ (iprop(Φ₁ m ρ c ∗ debt c 0 ∗ xPts m ρ c ∗ oPts c (outAt m ρ c)) : sProp 𝕄) := by
  unfold Finished Kept Φ₁ Scratch Spare
  rw [zeros_cut]
  iintro ⟨⟨H0, H1, Hx, Hown, Ho, HO, Hz, HB, HR⟩, ⟨%g, Hs0⟩, HI⟩
  ihave Hw := (w_back m ρ c) $$ [H0 H1]
  · isplitl [H0] <;> iassumption
  icases Hw with ⟨Hwb, Hz0, Hz1, Hw⟩
  ihave HB := (backs_end m ρ c) $$ HB
  icases HB with ⟨HzS, Hxs⟩
  ihave HR := (recvs_end m ρ c) $$ HR
  icases HR with ⟨HzV, Hsl⟩
  ihave Hxs := (Entails.of_eq (xs_cut m ρ c).symm) $$ [Hown Hxs]
  · isplitl [Hown] <;> iassumption
  ihave Hxb := (xb_join c g) $$ [Hs0 Hsl]
  · isplitl [Hs0]; · (iexists g; iexact Hs0)
    iexact Hsl
  isplitl [Hz HzS HzV HI Hz0 Hz1 Hw Hxs Hxb Hwb]
  · isplitl [Hz HzS HzV]
    · isplitl [Hz]; · iexact Hz
      isplitl [HzS] <;> iassumption
    isplitl [HI Hz0 Hz1]
    · isplitl [HI]; · iexact HI
      isplitl [Hz0] <;> iassumption
    isplitl [Hw]; · unfold wPts; iexact Hw
    isplitl [Hxs]; · (iexists _; iexact Hxs)
    isplitl [Hxb] <;> iassumption
  isplitl [HO]; · iexact HO
  isplitl [Hx] <;> iassumption

/-! ## The body obligation -/

/-- Staging buffer `b` of device `c`, holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, with the staging buffers spelt out, -/
def Before (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it takes back. -/
def After (c : Dev nD) : sProp 𝕄 :=
  iprop(Φ₁ m ρ c ∗ (dats m ρ 0 c).owesAt () t0_0.succ ∗ stg c cc0_stg0_0 (xstg m ρ c) ∗ stg c cc0_stg1_0 (outAt m ρ c))

/-- The body runs from the one to the other. -/
theorem run_body (c : Dev nD) : Before m ρ c ⊢ WP c (onArgs (cc0_body (F := F))) (fun _ => After m ρ c) := by
  unfold Before Φ₀ Start stg
  iintro ⟨⟨⟨⟨%K, #HK⟩, Hst⟩, Hsc⟩, HO, ⟨%d, %g, %hg, Hx⟩, ⟨%d', %g', %hg', Ho⟩⟩
  have hx : g = xstg m ρ c := by rw [hg]; unfold Dat.before; rw [if_pos (fetch0_0 t0_0)]; rfl
  subst hx
  unfold Dat.owesAt Pipeline.owesWithin
  icases HO with ⟨%W, %hW, HO⟩
  ihave H := (ready_of m ρ c g') $$ [Hst Hsc HO Hx Ho]
  · isplitl [Hst]; · iexact Hst
    isplitl [Hsc]; · iexact Hsc
    isplitl [HO]; · unfold debt; (iexists W; iexact HO)
    isplitl [Hx] <;> iassumption
  icases H with ⟨HR, HKp⟩
  iapply (body m ρ K c fun _ => After m ρ c) $$ HK HR
  iintro HF
  ihave H := (finished_to m ρ c) $$ [HF HKp]
  · isplitl [HF] <;> iassumption
  icases H with ⟨HΦ, HO, Hx, Ho⟩
  unfold After stg Dat.owesAt Pipeline.owesWithin debt
  isplitl [HΦ]; · iexact HΦ
  isplitl [HO]
  · icases HO with ⟨%W', HO⟩
    iexists W'; isplitr; · (ipureintro; exact fun _ _ => Or.inl trivial)
    iexact HO
  isplitl [Hx]
  · iexists _; isplitr; · (ipureintro; rfl)
    iexact Hx
  iexists _; isplitr; · (ipureintro; rfl)
  iexact Ho

/-- So the body does at the one grid point what the proof data say. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact run_body m ρ c

/-! ## The launch's side conditions -/

/-- The launch's resources make `Start`. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> (iprop(Start m ρ c ∗ emp) : sProp 𝕄) := by
  rw [Pipeline.unscopedRestP_none]
  iintro ⟨Hw, Hlev, Hcr, -, HG⟩
  ihave Hw := (Entails.of_eq (unscopedRest0_eq c fun b => m ((c : Thread nD τ).loc b))) $$ Hw
  ihave Hc := (creds (F := F) c) $$ Hcr
  icases Hc with ⟨H1, HN⟩
  imodintro
  unfold Start G' known Facts
  icases HG with ⟨⟨%K, HI, HR⟩, HD⟩
  isplitl
  · isplitl [HI HR Hlev]
    · iexists K
      isplitl [HI]; · iexact HI
      isplitl [HR] <;> iassumption
    isplitl [HD]; · iexact HD
    isplitl [H1]; · iexact H1
    isplitl [HN]; · iexact HN
    unfold wPts; iexact Hw
  · iempintro

/-- With the scratch buffers they make what is held before the body. -/
theorem phi0_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ Scratch
  iintro ⟨Hs, -, Hr⟩
  ihave Hr := (Entails.of_eq (scopedRest0_eq c)) $$ Hr
  isplitl [Hs] <;> iassumption

/-- What is held after the body gives the launch's resources back, with every counter at zero. -/
theorem phi1_exit (c : Dev nD) :
    (dats m ρ 0 c).Φ (Fin.last cfg0.N)
      ⊢ iprop((unscopedSems0 c ∗ wPts m ρ c) ∗ Pipeline.ownSems0 osem c ∗ Pipeline.scopedRest cfg0.spec c) := by
  rw [show (dats m ρ 0 c).Φ (Fin.last cfg0.N) = Φ₁ m ρ c from rfl]
  unfold Φ₁ Scratch
  iintro ⟨Hz, Hsp, Hw, Hr⟩
  ihave Hr := (Entails.of_eq (scopedRest0_eq c).symm) $$ Hr
  ihave H := (sems_give (F := F) c) $$ [Hz Hsp]
  · isplitl [Hz] <;> iassumption
  icases H with ⟨Hu, Ho⟩
  isplitl [Hu Hw]
  · isplitl [Hu] <;> iassumption
  isplitl [Ho] <;> iassumption

/-- The pipeline's own waits lie below everything that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the end the weights are read off the memory, and every unscoped semaphore at zero. -/
theorem read_end (c : Dev nD) (s' : Phys nD τ sig (Elt F)) :
    iprop((unscopedSems0 c ∗ wPts m ρ c) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = wts m ρ c⌝ ∗ SI s') : sProp 𝕄) := by
  unfold wPts
  iintro ⟨⟨Hu, Hw⟩, -, HSI⟩
  icombine HSI Hw gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  iexact HSI

/-! ## The run -/

/-- A window's array after the run. -/
def finalA (c : Dev nD) (w : Fin cfg0.W) : Buf (Elt F) ((cfg0.win w).arr.view.loc (c : Thread nD τ)) := (dats m ρ 0 c).arrAt w cfg0.N

/-- From any memory with zero counters, on all sixteen devices: the kernel terminates under every fair schedule; at the end each
    device's windows' arrays are at the computed contents, its weights are what they were, and every counter is zero. -/
theorem run_main : θ_run defs (onTc (τ := τ) (main (F := F))) (s₀ m ρ) (fun r =>
    ((∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (own_cut _ _) $$ Hu
      icases H with ⟨HP, HX⟩
      imod (fund_dev m ρ) $$ HX with HG
      imodintro
      isplitl [HP] <;> iassumption)
    (hglob := glob m ρ)
    (hA := fun _ _ => rfl) (hpf := fun _ k => k.elim0)
    (X := Start m ρ) (Y := fun c => iprop(unscopedSems0 c ∗ wPts m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wts m ρ c)
    (hY := read_end m ρ)
    (hQ := fun _ h hs => ⟨fun c => ⟨(h c).1, (h c).2.2.2⟩, sem_eq_zero hs fun c => (h c).2.2.1⟩)

/-- The run leaves `x` as it was: nothing is written back through an argument's window. -/
theorem arg_kept (c : Dev nD) : finalA m ρ c (0 : Fin 2) = m ((c : Thread nD τ).loc main_arg0) :=
  (dats m ρ 0 c).arrAt_in (0 : Fin cfg0.W) rfl cfg0.N

end Cert.KernelProof

end
-- ==== Proof.Value.lean ====
/-
What the kernel leaves, over the reals: each device's rows of the product of the whole x with the whole w, cut off below
at zero.
-/
module

public import proofs.«01_k».proof.Proof.Launch
public import Idealize.ShloMosaic.Lib.MatmulPlain
public import Idealize.ShloMosaic.Lib.StackMember
public import Idealize.ShloMosaic.Lib.KernelVsHost
public import Idealize.ShloMosaic.Lib.IdealHost
public import Idealize.ShloMosaic.Lib.ValueIdx
public import Idealize.ShloMosaic.Lib.Layout

@[expose] public section

set_option maxRecDepth 16384

noncomputable section

namespace Cert.KernelProof

open Cert.Kernel Cert.Kernel.Gen
open Idealize.ShloMosaic Idealize.ShloMosaic.TcCoe Idealize.ShloMosaic.ValueIdx
open scoped BigOperators

/-! ## What the two arrays of the launch hold -/

section Arrays
variable {F : FTy → Type} [FloatOps F]
variable (m : (ℓ : Loc nD τ sig) → Buf (Elt F) ℓ) (ρ : Dev nD → PrngReg)

/-- The argument's one block is the argument. -/
theorem read_x (f : (main_arg0 : Ref sig .tc).ty.Contents (Elt F)) : (win0_0.blk (0 : Fin 1)).view.read (Elt F) f = f :=
  Memref.read_access_unit_zero (Elt F) main_arg0 (funext fun a => by fin_cases a <;> rfl) _ f

/-- The result's one block is the result. -/
theorem read_o (f : (main_v1 : Ref sig .tc).ty.Contents (Elt F)) : (win0_1.blk (0 : Fin 1)).view.read (Elt F) f = f :=
  Memref.read_access_unit_zero (Elt F) main_v1 (funext fun a => by fin_cases a <;> rfl) _ f

/-- The result array ends holding what the body stores. -/
theorem finalA_out (c : Dev nD) : finalA m ρ c (1 : Fin 2) = outAt m ρ c := by
  have h : (win0_1.blk (0 : Fin 1)).view.read (Elt F) ((dats m ρ 0 c).arrAt (1 : Fin 2) 1) = (dats m ρ 0 c).flushed (1 : Fin 2) (0 : Fin 1) :=
    (dats m ρ 0 c).read_blk_arrAt_eq_flushed (1 : Fin 2) (fun t t' _ _ hne => absurd (Subsingleton.elim (α := Fin 1) t t') hne)
      1 (0 : Fin 1) Nat.zero_lt_one (by decide)
  exact (read_o _).symm.trans h

end Arrays

/-! ## Over the reals -/

section Reals
variable (m : (ℓ : Loc nD τ sig) → Buf (Elt Ideal) ℓ) (ρ : Dev nD → PrngReg)

/-- Row `256 d + a` of 4096. -/
abbrev row (d : Fin 16) (a : Fin 256) : Fin 4096 := ⟨d.val * 256 + a.val, by have := d.isLt; have := a.isLt; omega⟩

/-- The chunk for `j`, entry by entry: rows `256 j …` of the device's columns. Over the reals narrowing changes nothing. -/
theorem chunk_entry (c j : Dev nD) (a b : Fin 256) :
    chunkVal m ρ c j (ix2 a b) = m ((c : Thread nD τ).loc main_arg0) (ix2 (row j a) b) := by
  have hs : xs m ρ c = m ((c : Thread nD τ).loc main_arg0) := by
    unfold xs k0_pay1 xstg
    rw [read_x]
    funext i
    simp only [shapeCast_self]
    rfl
  unfold chunkVal
  rw [hs]
  show m ((c : Thread nD τ).loc main_arg0) ((chunkM j).view.emb (ix2 a b)) = _
  refine congrArg _ (funext fun ax => Fin.ext ?_)
  match ax with
  | ⟨0, _⟩ => show 256 * j.val + 1 * a.val = j.val * 256 + a.val; omega
  | ⟨1, _⟩ => show 0 + 1 * b.val = b.val; omega

/-- Block `j` of the weights, entry by entry: rows `256 j …` of w. -/
theorem weight_entry (c : Dev nD) (j : Fin 16) (a : Fin 256) (b : Fin 2048) :
    wVal m ρ c j (ix2 a b) = m ((c : Thread nD τ).loc main_arg1) (ix2 (row j a) b) := by
  unfold wVal wts
  show m ((c : Thread nD τ).loc main_arg1) ((wsrcM j).view.emb (ix2 a b)) = _
  refine congrArg _ (funext fun ax => Fin.ext ?_)
  match ax with
  | ⟨0, _⟩ => show 256 * j.val + 1 * a.val = j.val * 256 + a.val; omega
  | ⟨1, _⟩ => show 0 + 1 * b.val = b.val; omega

/-- One block product's entry. -/
theorem mulF_entry (x : FVec Ideal S256x256 .bf16) (w : FVec Ideal S256x2048 .f32) (a : Fin 256) (b : Fin 2048) :
    mulF x w (ix2 a b) = ∑ k : Fin 256, x (ix2 a k) * w (ix2 k b) := by
  refine (Ideal.matmul_plain_apply (M := 256) (K := 256) (N := 2048) none x _ _ a b).trans ?_
  rw [show (constant (F := Ideal) S256x2048 .f32 0x00000000#32) (ix2 a b) = 0 from Ideal.ofBits_zero_f32, zero_add]
  rfl

/-- The running sum's entry is the sum of the blocks' entries. -/
theorem accF_entry (c : Dev nD) (i : S256x2048.Idx) :
    ∀ n, accF m ρ c n i = ∑ s ∈ Finset.range (n + 1), term m ρ c (Fin.ofNat 16 s) i
  | 0 => by
    rw [Finset.sum_range_one]
    show Ideal.ofBits .f32 0x00000000#32 + term m ρ c 0 i = _
    rw [Ideal.ofBits_zero_f32, zero_add]; rfl
  | n + 1 => by
    rw [Finset.sum_range_succ, ← accF_entry c i n]; rfl

/-- Going back from `c` by `0 … 15` meets every device once. -/
theorem back_bijective (c : Dev nD) : Function.Bijective (back c) :=
  Finite.injective_iff_bijective.mp (by revert c; unfold Function.Injective; decide +kernel)

/-- A sum over the sixteen blocks of 256 is the sum over the 4096. -/
theorem sum_rows (f : Fin 4096 → EReal) : ∑ d : Fin 16, ∑ k : Fin 256, f (row d k) = ∑ k : Fin 4096, f k := by
  rw [← Fintype.sum_prod_type' (f := fun d k => f (row d k))]
  refine Fintype.sum_equiv (finProdFinEquiv (m := 16) (n := 256)) _ _ fun p => congrArg f (Fin.ext ?_)
  show p.1.val * 256 + p.2.val = p.2.val + 256 * p.1.val
  omega

/-- The whole sum's entry: device `c`'s rows of the product of the whole `X` and the whole `W`. -/
theorem acc_entry (X : FVec Ideal ⟨2, ![4096, 4096]⟩ .f32) (W : FVec Ideal ⟨2, ![4096, 2048]⟩ .f32)
    (hX : ∀ c : Dev nD, m ((c : Thread nD τ).loc main_arg0) = Layout.block ⟨2, ![4096, 256]⟩ ⟨2, ![4096, 4096]⟩ 1 16 c X)
    (hW : ∀ c : Dev nD, m ((c : Thread nD τ).loc main_arg1) = W) (c : Dev nD) (a : Fin 256) (b : Fin 2048) :
    accF m ρ c 15 (ix2 a b) = ∑ k : Fin 4096, X (ix2 (row c a) k) * W (ix2 k b) := by
  rw [accF_entry, Finset.sum_range (n := 16)]
  rw [← sum_rows (fun k => X (ix2 (row c a) k) * W (ix2 k b))]
  refine Fintype.sum_bijective (back c) (back_bijective c) _ _ fun s => ?_
  rw [show Fin.ofNat 16 s.val = s from Fin.ext (Nat.mod_eq_of_lt s.isLt)]
  refine (mulF_entry _ _ a b).trans (Finset.sum_congr rfl fun k _ => ?_)
  rw [chunk_entry, weight_entry, hX, hW, Layout.block_apply]
  refine congrArg (· * _) (congrArg X (funext fun ax => Fin.ext ?_))
  match ax with
  | ⟨0, _⟩ => rfl
  | ⟨1, _⟩ => rfl

/-- Reading a block of rows at an entry. -/
theorem rows_entry (v : (⟨2, ![4096, 2048]⟩ : Shape).Idx → EReal) (c : Dev nD) (a : Fin 256) (b : Fin 2048) :
    Layout.block ⟨2, ![256, 2048]⟩ ⟨2, ![4096, 2048]⟩ 0 16 c v (by decide) (ix2 a b) = v (ix2 (row c a) b) := by
  rw [Layout.block_apply]
  refine congrArg v (funext fun ax => Fin.ext ?_)
  match ax with
  | ⟨0, _⟩ => rfl
  | ⟨1, _⟩ => rfl

end Reals

end Cert.KernelProof
-- ==== Proof.Same.lean ====
/-
The kernel read over the reals is the kernel's own text: one program at every reading of the floats.
-/
module

public import proofs.«01_k».proof.Proof.Gen.Kernel
public import proofs.«01_k».proof.Proof.Gen.KernelIdeal

@[expose] public section

set_option maxRecDepth 16384

namespace Cert.KernelProof

open Idealize.ShloMosaic

variable {F : FTy → Type} [FloatOps F]

/-- The idealized kernel's body is the kernel's; -/
theorem body_same : Cert.KernelIdeal.cc0_body (F := F) = Cert.Kernel.cc0_body (F := F) := rfl
/-- so are its body tables, -/
theorem defs₀_same : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl
/-- so is what it calls, -/
theorem defs_same : Cert.KernelIdeal.defs (F := F) = Cert.Kernel.defs (F := F) :=
  congrArg (Pipeline.defs Cert.Kernel.pcfgs) defs₀_same
/-- and its program. -/
theorem main_same : Cert.KernelIdeal.main (F := F) = Cert.Kernel.main (F := F) := rfl

end Cert.KernelProof
-- ==== Proof.Claims.lean ====
/-
The certificate's claims: the kernel and the reference run to the end and leave their arguments and the counters as they
should, and over the reals each device's result is its rows of the reference's.
-/
module

public import proofs.«01_k».proof.Defs
public import proofs.«01_k».proof.Proof.Value
public import proofs.«01_k».proof.Proof.Same
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.KernelProof

open Idealize.ShloMosaic Idealize.ShloMosaic.TcCoe Idealize.ShloMosaic.ValueIdx Idealize.SL.Sem
open scoped BigOperators

/-! ## The kernel -/

section Kernel
open Cert.Kernel Cert.Kernel.Gen
variable {F : FTy → Type} [FloatOps F]

/-- From any memory, every run ends with the result array holding what the body stores, both arguments as they were, and
    every counter at zero. -/
theorem kernel_run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c =>
    ⟨((h.1 c).1 (1 : Fin 2)).trans (finalA_out m ρ c), ((h.1 c).1 (0 : Fin 2)).trans (arg_kept m ρ c), (h.1 c).2⟩, h.2⟩) (run_main m ρ)

/-- The same of the idealized kernel, which is the same program. -/
theorem kernelIdeal_run (m : (ℓ : Loc nD τ sig) → Buf (Elt F) ℓ) (ρ : Dev nD → PrngReg) :
    θ_run (Cert.KernelIdeal.defs (F := F)) (onTc (τ := Cert.KernelIdeal.τ) (Cert.KernelIdeal.main (F := F))) ⟨m, fun _ => 0, ρ⟩ fun r =>
      (∀ c : Dev nD, r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  rw [defs_same, main_same]
  exact kernel_run m ρ

end Kernel

/-- `Cert.quiescent_Kernel`: the kernel at the bit-exact reading. -/
theorem frame_kernel : Cert.quiescent_Kernel := fun m ρ _ =>
  (θ_run Cert.Kernel.defs _ _).mono (fun _ h => ⟨fun c => (h.1 c).2, h.2⟩) (kernel_run (F := Bits) m ρ)

/-- `Cert.quiescent_KernelIdeal`: the idealized kernel over the reals. -/
theorem frame_kernelIdeal : Cert.quiescent_KernelIdeal := fun m ρ _ =>
  (θ_run Cert.KernelIdeal.defs _ _).mono (fun _ h => ⟨fun c => (h.1 c).2, h.2⟩) (kernelIdeal_run (F := Ideal) m ρ)

/-! ## The reference -/

/-- `Cert.quiescent_ReferenceIdeal`: the reference over the reals; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result from the whole arguments: their product, cut off below at zero. -/
def whole (X : FVec Ideal ⟨2, ![4096, 4096]⟩ .f32) (W : FVec Ideal ⟨2, ![4096, 2048]⟩ .f32) : FVec Ideal ⟨2, ![4096, 2048]⟩ .f32 :=
  maximumf (Host.dotGeneral Cert.ReferenceIdeal.dot_S4096x4096_S4096x2048_S4096x2048_1_0_0_1_n_n none X W)
    (broadcastInDim Cert.ReferenceIdeal.S4096x2048 ![] Cert.ReferenceIdeal.Gen.bcast_S_S4096x2048 (constant Cert.ReferenceIdeal.S_ .f32 0x00000000#32))

/-- Its entries. -/
theorem whole_entry (X : FVec Ideal ⟨2, ![4096, 4096]⟩ .f32) (W : FVec Ideal ⟨2, ![4096, 2048]⟩ .f32) (r : Fin 4096) (b : Fin 2048) :
    whole X W (ix2 r b) = max (∑ k : Fin 4096, X (ix2 r k) * W (ix2 k b)) 0 := by
  have hd : Host.dotGeneral Cert.ReferenceIdeal.dot_S4096x4096_S4096x2048_S4096x2048_1_0_0_1_n_n none X W (ix2 r b)
      = ∑ k : Fin 4096, X (ix2 r k) * W (ix2 k b) := StackMember.dotGeneral_plain_apply (m := 4096) (n := 2048) none X W r b
  have hz : broadcastInDim Cert.ReferenceIdeal.S4096x2048 ![] Cert.ReferenceIdeal.Gen.bcast_S_S4096x2048
      (constant (F := Ideal) Cert.ReferenceIdeal.S_ .f32 0x00000000#32) (ix2 r b) = 0 := Ideal.ofBits_zero_f32
  exact congrArg₂ max hd hz

/-! ## The kernel against the reference -/

/-- What a device stores is its rows of the reference's result. -/
theorem out_rows (m : (ℓ : Loc Cert.Kernel.nD Cert.Kernel.τ Cert.Kernel.sig) → Buf (Elt Ideal) ℓ) (ρ : Dev Cert.Kernel.nD → PrngReg)
    (X : FVec Ideal ⟨2, ![4096, 4096]⟩ .f32) (W : FVec Ideal ⟨2, ![4096, 2048]⟩ .f32)
    (hX : ∀ c : Dev Cert.Kernel.nD, m ((c.tc : Thread Cert.Kernel.nD Cert.Kernel.τ).loc Cert.Kernel.main_arg0)
      = Layout.block ⟨2, ![4096, 256]⟩ ⟨2, ![4096, 4096]⟩ 1 16 c X)
    (hW : ∀ c : Dev Cert.Kernel.nD, m ((c.tc : Thread Cert.Kernel.nD Cert.Kernel.τ).loc Cert.Kernel.main_arg1) = W)
    (c : Dev Cert.Kernel.nD) :
    outAt m ρ c = Layout.block ⟨2, ![256, 2048]⟩ ⟨2, ![4096, 2048]⟩ 0 16 c (whole X W) := by
  funext i
  obtain ⟨a, b, rfl⟩ : ∃ (a : Fin 256) (b : Fin 2048), i = ix2 a b := ⟨i 0, i 1, eq_ix2 i⟩
  rw [rows_entry, whole_entry, ← acc_entry m ρ X W hX hW c a b]
  exact congrArg (max (accF m ρ c 15 (ix2 a b))) Ideal.ofBits_zero_f32

/-- `Cert.algebraic_KernelIdeal_ReferenceIdeal`: over the reals, from shards of the reference's x and copies of its w, each
    device ends with its rows of the reference's result. -/
theorem value : Cert.algebraic_KernelIdeal_ReferenceIdeal := by
  intro m ρ m' ρ' _ hm
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
      ⟨((h.1 c).1).trans (out_rows m ρ _ _ (fun c => (hm c).1) (fun c => (hm c).2) c), (h.1 c).2⟩) (kernelIdeal_run (F := Ideal) m ρ)
  · exact (θ_run Cert.ReferenceIdeal.defs _ _).mono (fun _ h => h 0) (Cert.ReferenceIdeal.Value.run (F := Ideal) m' ρ')

end Cert.KernelProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate, each from its theorem in Proof/Claims.lean. -/
theorem claim : Cert.Claim := ⟨Cert.Kernel.Gen.facts, Cert.KernelIdeal.Gen.facts, Cert.ReferenceIdeal.Gen.facts,
  KernelProof.frame_kernel, KernelProof.frame_kernelIdeal, KernelProof.frame_reference, trivial, KernelProof.value⟩

end Cert.Proof

end
